-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S2x256x1024 : Shape := ⟨3, ![2, 256, 1024]⟩
abbrev S2x1024 : Shape := ⟨2, ![2, 1024]⟩
abbrev S6x1024 : Shape := ⟨2, ![6, 1024]⟩
abbrev S2 : Shape := ⟨1, ![2]⟩
abbrev S6 : Shape := ⟨1, ![6]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1x1024, .f32⟩
  | .local _ .vmem, ⟨1, _⟩ => ⟨S2x256x1024, .f32⟩
  | .local _ .vmem, ⟨2, _⟩ => ⟨S2x1024, .f32⟩
  | .local _ .vmem, ⟨3, _⟩ => ⟨S6x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_110 : BitVec 32 := 1#32
  let v127 : BitVec 32 := Scalar.addi v2 c1_i32_110
  let c4_i32_111 : BitVec 32 := 4#32
  let c0_i32_112 : BitVec 32 := 0#32
  let v128 : BitVec 1 := Scalar.cmpi .eq c4_i32_111 c0_i32_112
  let c1_i32_113 : BitVec 32 := 1#32
  let v129 : BitVec 32 := Scalar.select v128 c1_i32_113 c4_i32_111
  let v130 : BitVec 32 := Scalar.remsi v127 v129
  let c0_i32_115 : BitVec 32 := 0#32
  let v132 : BitVec 1 := Scalar.cmpi .slt v130 c0_i32_115
  let c0_i32_116 : BitVec 32 := 0#32
  let v133 : BitVec 1 := Scalar.cmpi .slt v129 c0_i32_116
  let v134 : BitVec 1 := Scalar.xori v132 v133
  let c0_i32_114 : BitVec 32 := 0#32
  let v131 : BitVec 1 := Scalar.cmpi .ne v130 c0_i32_114
  let v135 : BitVec 1 := Scalar.andi v134 v131
  let v136 : BitVec 32 := Scalar.addi v130 v129
  let v137 : BitVec 32 := Scalar.select v135 v136 v130
  let c1_i32_119 : BitVec 32 := 1#32
  let v138 : BitVec 32 := Scalar.muli v137 c1_i32_119
  let v139 : BitVec 32 := Scalar.addi c0_i32_120 v138
  v139.toNat
def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_125 : BitVec 32 := 2#32
  let v146 : BitVec 32 := Scalar.addi v2 c2_i32_125
  let c4_i32_126 : BitVec 32 := 4#32
  let c0_i32_127 : BitVec 32 := 0#32
  let v147 : BitVec 1 := Scalar.cmpi .eq c4_i32_126 c0_i32_127
  let c1_i32_128 : BitVec 32 := 1#32
  let v148 : BitVec 32 := Scalar.select v147 c1_i32_128 c4_i32_126
  let v149 : BitVec 32 := Scalar.remsi v146 v148
  let c0_i32_130 : BitVec 32 := 0#32
  let v151 : BitVec 1 := Scalar.cmpi .slt v149 c0_i32_130
  let c0_i32_131 : BitVec 32 := 0#32
  let v152 : BitVec 1 := Scalar.cmpi .slt v148 c0_i32_131
  let v153 : BitVec 1 := Scalar.xori v151 v152
  let c0_i32_129 : BitVec 32 := 0#32
  let v150 : BitVec 1 := Scalar.cmpi .ne v149 c0_i32_129
  let v154 : BitVec 1 := Scalar.andi v153 v150
  let v155 : BitVec 32 := Scalar.addi v149 v148
  let v156 : BitVec 32 := Scalar.select v154 v155 v149
  let c1_i32_134 : BitVec 32 := 1#32
  let v157 : BitVec 32 := Scalar.muli v156 c1_i32_134
  let v158 : BitVec 32 := Scalar.addi c0_i32_135 v157
  v158.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_140 : BitVec 32 := 3#32
  let v165 : BitVec 32 := Scalar.addi v2 c3_i32_140
  let c4_i32_141 : BitVec 32 := 4#32
  let c0_i32_142 : BitVec 32 := 0#32
  let v166 : BitVec 1 := Scalar.cmpi .eq c4_i32_141 c0_i32_142
  let c1_i32_143 : BitVec 32 := 1#32
  let v167 : BitVec 32 := Scalar.select v166 c1_i32_143 c4_i32_141
  let v168 : BitVec 32 := Scalar.remsi v165 v167
  let c0_i32_145 : BitVec 32 := 0#32
  let v170 : BitVec 1 := Scalar.cmpi .slt v168 c0_i32_145
  let c0_i32_146 : BitVec 32 := 0#32
  let v171 : BitVec 1 := Scalar.cmpi .slt v167 c0_i32_146
  let v172 : BitVec 1 := Scalar.xori v170 v171
  let c0_i32_144 : BitVec 32 := 0#32
  let v169 : BitVec 1 := Scalar.cmpi .ne v168 c0_i32_144
  let v173 : BitVec 1 := Scalar.andi v172 v169
  let v174 : BitVec 32 := Scalar.addi v168 v167
  let v175 : BitVec 32 := Scalar.select v173 v174 v168
  let c1_i32_149 : BitVec 32 := 1#32
  let v176 : BitVec 32 := Scalar.muli v175 c1_i32_149
  let v177 : BitVec 32 := Scalar.addi c0_i32_150 v176
  v177.toNat
def k0_dev7 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v248 : BitVec 32 := Scalar.addi v2 c1_i32_219
  let c4_i32_220 : BitVec 32 := 4#32
  let c0_i32_221 : BitVec 32 := 0#32
  let v249 : BitVec 1 := Scalar.cmpi .eq c4_i32_220 c0_i32_221
  let c1_i32_222 : BitVec 32 := 1#32
  let v250 : BitVec 32 := Scalar.select v249 c1_i32_222 c4_i32_220
  let v251 : BitVec 32 := Scalar.remsi v248 v250
  let c0_i32_224 : BitVec 32 := 0#32
  let v253 : BitVec 1 := Scalar.cmpi .slt v251 c0_i32_224
  let c0_i32_225 : BitVec 32 := 0#32
  let v254 : BitVec 1 := Scalar.cmpi .slt v250 c0_i32_225
  let v255 : BitVec 1 := Scalar.xori v253 v254
  let c0_i32_223 : BitVec 32 := 0#32
  let v252 : BitVec 1 := Scalar.cmpi .ne v251 c0_i32_223
  let v256 : BitVec 1 := Scalar.andi v255 v252
  let v257 : BitVec 32 := Scalar.addi v251 v250
  let v258 : BitVec 32 := Scalar.select v256 v257 v251
  let c1_i32_228 : BitVec 32 := 1#32
  let v259 : BitVec 32 := Scalar.muli v258 c1_i32_228
  let v260 : BitVec 32 := Scalar.addi c0_i32_229 v259
  v260.toNat
def k0_dev8 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_234 : BitVec 32 := 2#32
  let v267 : BitVec 32 := Scalar.addi v2 c2_i32_234
  let c4_i32_235 : BitVec 32 := 4#32
  let c0_i32_236 : BitVec 32 := 0#32
  let v268 : BitVec 1 := Scalar.cmpi .eq c4_i32_235 c0_i32_236
  let c1_i32_237 : BitVec 32 := 1#32
  let v269 : BitVec 32 := Scalar.select v268 c1_i32_237 c4_i32_235
  let v270 : BitVec 32 := Scalar.remsi v267 v269
  let c0_i32_239 : BitVec 32 := 0#32
  let v272 : BitVec 1 := Scalar.cmpi .slt v270 c0_i32_239
  let c0_i32_240 : BitVec 32 := 0#32
  let v273 : BitVec 1 := Scalar.cmpi .slt v269 c0_i32_240
  let v274 : BitVec 1 := Scalar.xori v272 v273
  let c0_i32_238 : BitVec 32 := 0#32
  let v271 : BitVec 1 := Scalar.cmpi .ne v270 c0_i32_238
  let v275 : BitVec 1 := Scalar.andi v274 v271
  let v276 : BitVec 32 := Scalar.addi v270 v269
  let v277 : BitVec 32 := Scalar.select v275 v276 v270
  let c1_i32_243 : BitVec 32 := 1#32
  let v278 : BitVec 32 := Scalar.muli v277 c1_i32_243
  let v279 : BitVec 32 := Scalar.addi c0_i32_244 v278
  v279.toNat
def k0_dev9 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_249 : BitVec 32 := 3#32
  let v286 : BitVec 32 := Scalar.addi v2 c3_i32_249
  let c4_i32_250 : BitVec 32 := 4#32
  let c0_i32_251 : BitVec 32 := 0#32
  let v287 : BitVec 1 := Scalar.cmpi .eq c4_i32_250 c0_i32_251
  let c1_i32_252 : BitVec 32 := 1#32
  let v288 : BitVec 32 := Scalar.select v287 c1_i32_252 c4_i32_250
  let v289 : BitVec 32 := Scalar.remsi v286 v288
  let c0_i32_254 : BitVec 32 := 0#32
  let v291 : BitVec 1 := Scalar.cmpi .slt v289 c0_i32_254
  let c0_i32_255 : BitVec 32 := 0#32
  let v292 : BitVec 1 := Scalar.cmpi .slt v288 c0_i32_255
  let v293 : BitVec 1 := Scalar.xori v291 v292
  let c0_i32_253 : BitVec 32 := 0#32
  let v290 : BitVec 1 := Scalar.cmpi .ne v289 c0_i32_253
  let v294 : BitVec 1 := Scalar.andi v293 v290
  let v295 : BitVec 32 := Scalar.addi v289 v288
  let v296 : BitVec 32 := Scalar.select v294 v295 v289
  let c1_i32_257 : BitVec 32 := 1#32
  let v297 : BitVec 32 := Scalar.muli v296 c1_i32_257
  let v298 : BitVec 32 := Scalar.addi c0_i32_258 v297
  v298.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
# The protocol of the four-device column sum

Every device adds up its own rows in two halves of four blocks each.  Each half's row of sums is sent to the three
other devices, and a device adds the six rows it receives to its own two.

This module fixes what the proof of one run needs: the neighbours of a device, the semaphores, what each buffer holds
at the moments that matter, and the *schedule* of the semaphores that more than one device touches.  A device's barrier
semaphore is raised once by each of the three others, and each raise hands over the two receive rows of the raiser that
this device will fill.  A send semaphore is raised when an outgoing row has been read, and returns the share of that
row that the transfer borrowed.  A receive semaphore is raised when an incoming row has landed, and hands over that row.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.ValueIdxCore
public import Idealize.ShloMosaic.Lib.Tactic

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resource algebra -/

/-- The schedule's own component: duties are named by `Fin 3`. -/
abbrev RC : Type := URounds (GSem nD τ sig) (Fin 3)
/-- The staging component, the schedule's, and the counters of the device-local copies. -/
abbrev UA : Type := UR sig nD τ × (RC × Counters)

local notation "𝕄" => MT nD τ sig Unit (Elt F) ℕ UA ℕ

abbrev EP : Emb (UR sig nD τ) (MT nD τ sig Unit (Elt F) ℕ UA ℕ) := embL
/-- Where the schedule's component sits: on the left of the right factor. -/
def ES : Emb RC (MT nD τ sig Unit (Elt F) ℕ UA ℕ) :=
  ((Emb.inl : Emb RC (RC × Counters)).trans (Emb.inr : Emb (RC × Counters) UA)).trans
    (uEmb (nD := nD) (sig := sig) (Ix := Unit) (Val := Elt F) (Name := ℕ) (U := UA) (Lvl := ℕ)).toEmb
instance ES_landsIn : (ES : Emb RC 𝕄).LandsIn (upEmb : UEmb _ 𝕄) := by unfold ES; infer_instance
/-- Where the counters of the local copies sit. -/
abbrev EC : UEmb Counters (MT nD τ sig Unit (Elt F) ℕ UA ℕ) := countersEmb

variable (m : (ℓ : Loc nD τ sig) → Buf (Elt F) ℓ)

/-! ## Neighbours -/

set_option backward.proofsInPublic true in
/-- The device `e + 1` places after `c`. -/
def fwd (e : Fin 3) (c : Dev nD) : Dev nD := ⟨(c.val + e.val + 1) % 4, Nat.mod_lt _ (by decide)⟩

set_option backward.proofsInPublic true in
/-- The distance back: `e + 1` places forward and then `back e + 1` places forward is the whole circle. -/
def back (e : Fin 3) : Fin 3 := ⟨2 - e.val, by omega⟩

theorem back_back (e : Fin 3) : back (back e) = e := by revert e; decide
theorem fwd_back (e : Fin 3) (c : Dev nD) : fwd e (fwd (back e) c) = c := by revert e c; decide
theorem back_fwd (e : Fin 3) (c : Dev nD) : fwd (back e) (fwd e c) = c := by revert e c; decide

/-- Going `e + 1` places forward, as a permutation of the devices. -/
def turn (e : Fin 3) : Dev nD ≃ Dev nD := ⟨fwd e, fwd (back e), back_fwd e, fwd_back e⟩

/-- The nine device words of the program: three signals, then three transfers of each half. -/
theorem dev1_eq (c : Dev nD) : (⟨k0_dev1 c, k0_dev1_lt c⟩ : Dev nD) = fwd 0 c := Fin.ext (by revert c; decide +kernel)
theorem dev2_eq (c : Dev nD) : (⟨k0_dev2 c, k0_dev2_lt c⟩ : Dev nD) = fwd 1 c := Fin.ext (by revert c; decide +kernel)
theorem dev3_eq (c : Dev nD) : (⟨k0_dev3 c, k0_dev3_lt c⟩ : Dev nD) = fwd 2 c := Fin.ext (by revert c; decide +kernel)
theorem dev4_eq (c : Dev nD) : (⟨k0_dev4 c, k0_dev4_lt c⟩ : Dev nD) = fwd 0 c := Fin.ext (by revert c; decide +kernel)
theorem dev5_eq (c : Dev nD) : (⟨k0_dev5 c, k0_dev5_lt c⟩ : Dev nD) = fwd 1 c := Fin.ext (by revert c; decide +kernel)
theorem dev6_eq (c : Dev nD) : (⟨k0_dev6 c, k0_dev6_lt c⟩ : Dev nD) = fwd 2 c := Fin.ext (by revert c; decide +kernel)
theorem dev7_eq (c : Dev nD) : (⟨k0_dev7 c, k0_dev7_lt c⟩ : Dev nD) = fwd 0 c := Fin.ext (by revert c; decide +kernel)
theorem dev8_eq (c : Dev nD) : (⟨k0_dev8 c, k0_dev8_lt c⟩ : Dev nD) = fwd 1 c := Fin.ext (by revert c; decide +kernel)
theorem dev9_eq (c : Dev nD) : (⟨k0_dev9 c, k0_dev9_lt c⟩ : Dev nD) = fwd 2 c := Fin.ext (by revert c; decide +kernel)

/-! ## Rows, slots and blocks -/

set_option backward.proofsInPublic true in
/-- The half a transfer belongs to: transfers 0, 1, 2 carry the first row, 3, 4, 5 the second. -/
def half (k : Fin 6) : Fin 2 := ⟨k.val / 3, by omega⟩
set_option backward.proofsInPublic true in
/-- How far a transfer goes. -/
def dist (k : Fin 6) : Fin 3 := ⟨k.val % 3, Nat.mod_lt _ (by decide)⟩
set_option backward.proofsInPublic true in
/-- The transfer of half `h` at distance `e`. -/
def slot (h : Fin 2) (e : Fin 3) : Fin 6 := ⟨3 * h.val + e.val, by omega⟩

theorem half_slot (h : Fin 2) (e : Fin 3) : half (slot h e) = h := by revert h e; decide
theorem dist_slot (h : Fin 2) (e : Fin 3) : dist (slot h e) = e := by revert h e; decide

abbrev aM : Memref sig .tc .hbm S2048x1024 .f32 := Memref.whole main_arg0
abbrev oM : Memref sig .tc .vmem S1x1024 .f32 := Memref.whole cc0_stg0_0
abbrev bM : Memref sig .tc .vmem S2x256x1024 .f32 := Memref.whole cc0_scratch0
abbrev pM : Memref sig .tc .vmem S2x1024 .f32 := Memref.whole cc0_scratch1
abbrev rM : Memref sig .tc .vmem S6x1024 .f32 := Memref.whole cc0_scratch2

/-- The rectangle of one row among the two rows of sums. -/
abbrev prect (h : Fin 2) : Rect S2x1024 :=
  Rect.unit (s := S2x1024) ![h.val, 0] S1x1024.size (by revert h; decide)
/-- The rectangle of one row among the six received. -/
abbrev rrect (k : Fin 6) : Rect S6x1024 :=
  Rect.unit (s := S6x1024) ![k.val, 0] S1x1024.size (by revert k; decide)
/-- The rectangle of one block among the eight of the argument. -/
abbrev arect (b : Fin 8) : Rect S2048x1024 :=
  Rect.unit (s := S2048x1024) ![256 * b.val, 0] S256x1024.size (by revert b; decide)
/-- The rectangle of one of the two landing slots. -/
abbrev brect (s : Fin 2) : Rect S2x256x1024 :=
  Rect.unit (s := S2x256x1024) ![s.val, 0, 0] S1x256x1024.size (by revert s; decide)

/-- One row of sums, one received row, one block of the argument, one landing slot with its unit axis dropped. -/
abbrev prow (h : Fin 2) : Memref sig .tc .vmem S1x1024 .f32 := pM.slice (prect h) (fun _ => rfl)
abbrev rrow (k : Fin 6) : Memref sig .tc .vmem S1x1024 .f32 := rM.slice (rrect k) (fun _ => rfl)
abbrev ablk (b : Fin 8) : Memref sig .tc .hbm S256x1024 .f32 := aM.slice (arect b) (fun _ => rfl)
abbrev bslot (s : Fin 2) : Memref sig .tc .vmem S256x1024 .f32 :=
  (bM.slice (brect s) (fun _ => rfl)).squeeze S256x1024 squeezes_S1x256x1024_S256x1024

/-! ## Semaphores -/

/-- The barrier semaphore. -/
abbrev barS : Sem sig := (SemArray.scalar (sig.barrier 0 rfl) : Sems sig S_).sem
set_option backward.proofsInPublic true in
/-- The semaphore a local copy into a landing slot completes on. -/
def copyS (s : Fin 2) : DmaSem sig := ⟨1 + s.val, by revert s; decide⟩
set_option backward.proofsInPublic true in
/-- The semaphore an outgoing transfer completes on. -/
def sendS (k : Fin 6) : DmaSem sig := ⟨3 + k.val, by revert k; decide⟩
set_option backward.proofsInPublic true in
/-- The semaphore an incoming transfer completes on. -/
def recvS (k : Fin 6) : DmaSem sig := ⟨9 + k.val, by revert k; decide⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))

/-- What a semaphore is for. -/
inductive Role where
  | bar | out (k : Fin 6) | inn (k : Fin 6) | local

set_option backward.proofsInPublic true in
/-- The use of each semaphore, by its number. -/
def role : SemLoc sig → Role
  | .reg s => if s = barS then .bar else .local
  | .dma s => if h : 3 ≤ s.val ∧ s.val < 9 then .out ⟨s.val - 3, by omega⟩
      else if h : 9 ≤ s.val ∧ s.val < 15 then .inn ⟨s.val - 9, by omega⟩ else .local

theorem role_bar : role (.reg barS) = .bar := by dsimp only [role]; rw [if_pos rfl]
theorem role_send (k : Fin 6) : role (.dma (sendS k)) = .out k := by fin_cases k <;> rfl
theorem role_recv (k : Fin 6) : role (.dma (recvS k)) = .inn k := by fin_cases k <;> rfl
theorem role_copy (s : Fin 2) : role (.dma (copyS s)) = .local := by fin_cases s <;> rfl

/-- The bytes one row's transfer counts on a semaphore. -/
abbrev N : ℕ := (rrow 0).view.dmaCredit
theorem N_pos : 0 < N := View.dmaCredit_pos _ (by decide)
theorem credit_rrow (k : Fin 6) : (rrow k).view.dmaCredit = N := by fin_cases k <;> rfl
theorem credit_prow (h : Fin 2) : (prow h).view.dmaCredit = N := by fin_cases h <;> rfl

/-! ## Contents -/

/-- The argument on device `c`. -/
def argOf (c : Dev nD) : Buf (Elt F) ((c : Thread nD τ).loc main_arg0) := m ((c : Thread nD τ).loc main_arg0)

/-- Block `b` of the argument on device `c`, with a unit axis in front, as the body loads it. -/
def blkOf (c : Dev nD) (b : Fin 8) : Vec F S1x256x1024 .f32 := fun x =>
  (ablk b).view.read (Elt F) (argOf m c)
    ((Shape.reshapeEquiv (squeezes_S1x256x1024_S256x1024).numel_eq).symm x)

/-- The first row of sums on device `c`: blocks 0 to 3, added in that order. -/
def sumLo (c : Dev nD) : Vec F S1x1024 .f32 :=
  k0_pay6 (blkOf m c 3) (k0_pay5 (blkOf m c 2) (k0_pay4 (blkOf m c 1) (k0_pay3 (k0_pay2 (blkOf m c 0)))))
/-- The second row of sums: blocks 4 to 7. -/
def sumHi (c : Dev nD) : Vec F S1x1024 .f32 :=
  k0_pay11 (blkOf m c 7) (k0_pay10 (k0_pay9 (blkOf m c 6) (k0_pay8 (blkOf m c 5) (k0_pay7 (blkOf m c 4)))))
/-- The row of sums of half `h`. -/
def sumOf (c : Dev nD) (h : Fin 2) : Vec F S1x1024 .f32 := if h = 0 then sumLo m c else sumHi m c

/-- The six received rows on device `c`: row `k` is the row of half `half k` of the device whose transfer `k` ends here. -/
def gotOf (c : Dev nD) : Vec F S6x1024 .f32 := fun i =>
  sumOf m (fwd (back (dist (i 0))) c) (half (i 0)) (ix2 0 (i 1))

/-- The result on device `c`. -/
def resOf (c : Dev nD) : Vec F S1x1024 .f32 := k0_pay1 (k0_pay12 (sumLo m c) (sumHi m c)) (gotOf m c)

/-- A two-row buffer whose rows both hold `v`. -/
def twice (c : Dev nD) (v : Vec F S1x1024 .f32) : Buf (Elt F) ((c : Thread nD τ).loc cc0_scratch1) := fun i => v (ix2 0 (i 1))

/-! ## Pieces of buffers held -/

/-- Row `h` of device `c`'s sums, held at the share `q`, holding `v`. -/
def rowAt (c : Dev nD) (h : Fin 2) (q : PosShare TreeShare) (v : Vec F S1x1024 .f32) : sProp 𝕄 :=
  (((c : Thread nD τ).loc cc0_scratch1) ↦[(prow h).view.set]{q} twice c v)
/-- Row `k` of device `c`'s receive buffer, holding anything. -/
def roomAt (c : Dev nD) (k : Fin 6) : sProp 𝕄 :=
  iprop(∃ f : Buf (Elt F) ((c : Thread nD τ).loc cc0_scratch2), ((c : Thread nD τ).loc cc0_scratch2) ↦[(rrow k).view.set]{fullShare} f)
/-- Row `k` of device `c`'s receive buffer, holding the row it was meant for. -/
def gotAt (c : Dev nD) (k : Fin 6) : sProp 𝕄 :=
  (((c : Thread nD τ).loc cc0_scratch2) ↦[(rrow k).view.set]{fullShare} gotOf m c)

instance rowAt_storable (c : Dev nD) (h : Fin 2) (q) (v) : BI.Storable (upEmb : UEmb _ 𝕄) (rowAt (F := F) c h q v) := by
  unfold rowAt; infer_instance
instance roomAt_storable (c : Dev nD) (k : Fin 6) : BI.Storable (upEmb : UEmb _ 𝕄) (roomAt (F := F) c k) := by
  unfold roomAt; infer_instance
instance gotAt_storable (c : Dev nD) (k : Fin 6) : BI.Storable (upEmb : UEmb _ 𝕄) (gotAt (F := F) m c k) := by
  unfold gotAt; infer_instance

/-- The three shares of a row that its three transfers borrow. -/
def third : Fin 3 → PosShare TreeShare
  | 0 => fullShare.left
  | 1 => fullShare.right.left
  | 2 => fullShare.right.right

/-! ## The schedule -/

/-- What duty `e` of device `c`'s barrier hands over: the two receive rows, one per half, that `c`'s transfers at
    distance `e` fill. -/
def barPay (c : Dev nD) (e : Fin 3) : sProp 𝕄 := iprop(roomAt (fwd e c) (slot 0 e) ∗ roomAt (fwd e c) (slot 1 e))
/-- What an outgoing transfer gives back when its row has been read. -/
def sendPay (c : Dev nD) (k : Fin 6) : sProp 𝕄 := rowAt c (half k) (third (dist k)) (sumOf m c (half k))

instance barPay_storable (c : Dev nD) (e : Fin 3) : BI.Storable (upEmb : UEmb _ 𝕄) (barPay (F := F) c e) := by
  unfold barPay; infer_instance
instance sendPay_storable (c : Dev nD) (k : Fin 6) : BI.Storable (upEmb : UEmb _ 𝕄) (sendPay (F := F) m c k) := by
  unfold sendPay; infer_instance

/-- The duties of a semaphore's only round, by its role. -/
def roleDuties : Role → Finset (Fin 3)
  | .bar => Finset.univ
  | .out _ => {0}
  | .inn _ => {0}
  | .local => ∅
/-- What one duty adds to the counter. -/
def roleAmount : Role → ℕ
  | .bar => 1
  | _ => N
/-- What one duty hands over. -/
def rolePay (c : Dev nD) (d : Fin 3) : Role → sProp 𝕄
  | .bar => barPay c d
  | .out k => sendPay m c k
  | .inn k => gotAt m c k
  | .local => iprop(emp)

/-- The schedule: one round, round 0, on every device's barrier, send and receive semaphores. -/
def sched : Rounds.Schedule (GSem nD τ sig) (Fin 3) 𝕄 where
  duties g r := if r = 0 ∧ g.1.2 = .tc then roleDuties (role g.2) else ∅
  unitless _ := False
  amount g _ _ := roleAmount (role g.2)
  payload g _ d := rolePay m g.1.1 d (role g.2)
  amount_pos g _ _ _ := by
    cases h : role g.2
    · exact Nat.one_pos
    all_goals exact N_pos

instance sched_payload_storable (g : GSem nD τ sig) (r : ℕ) (d : Fin 3) :
    BI.Storable (upEmb : UEmb _ 𝕄) ((sched (F := F) m).payload g r d) := by
  show BI.Storable upEmb (rolePay m g.1.1 d (role g.2))
  cases role g.2 <;> (unfold rolePay; dsimp only; infer_instance)

section Tables
variable (c : Dev nD)

theorem duties_tc (sm : SemLoc sig) : (sched (F := F) m).duties ((c : Thread nD τ), sm) 0 = roleDuties (role sm) := by
  dsimp only [sched]; rw [if_pos ⟨rfl, rfl⟩]
theorem duties_bar : (sched (F := F) m).duties (barCell c) 0 = Finset.univ := by rw [duties_tc, role_bar]; rfl
theorem duties_send (k : Fin 6) : (sched (F := F) m).duties (sendCell c k) 0 = {0} := by rw [duties_tc, role_send]; rfl
theorem duties_recv (k : Fin 6) : (sched (F := F) m).duties (recvCell c k) 0 = {0} := by rw [duties_tc, role_recv]; rfl
/-- No semaphore has a second round. -/
theorem duties_later (g : GSem nD τ sig) : ∀ r, 1 ≤ r → (sched (F := F) m).duties g r = ∅ :=
  fun r hr => if_neg fun h => by omega

theorem amount_bar (d : Fin 3) : (sched (F := F) m).amount (barCell c) 0 d = 1 := by
  show roleAmount (role (.reg barS)) = 1; rw [role_bar]; rfl
theorem amount_send (k : Fin 6) (d : Fin 3) : (sched (F := F) m).amount (sendCell c k) 0 d = N := by
  show roleAmount (role (.dma (sendS k))) = N; rw [role_send]; rfl
theorem amount_recv (k : Fin 6) (d : Fin 3) : (sched (F := F) m).amount (recvCell c k) 0 d = N := by
  show roleAmount (role (.dma (recvS k))) = N; rw [role_recv]; rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (k : Fin 6) : (sched (F := F) m).expect (sendCell c k) 0 = N := by
  unfold Schedule.expect Schedule.amountOf; rw [duties_send, Finset.sum_singleton, amount_send]
theorem expect_recv (k : Fin 6) : (sched (F := F) m).expect (recvCell c k) 0 = N := by
  unfold Schedule.expect Schedule.amountOf; rw [duties_recv, Finset.sum_singleton, amount_recv]

theorem payload_bar (d : Fin 3) : (sched (F := F) m).payload (barCell c) 0 d = barPay c d := by
  show rolePay m c d (role (.reg barS)) = _; rw [role_bar]; rfl
theorem payload_send (k : Fin 6) (d : Fin 3) : (sched (F := F) m).payload (sendCell c k) 0 d = sendPay m c k := by
  show rolePay m c d (role (.dma (sendS k))) = _; rw [role_send]; rfl
theorem payload_recv (k : Fin 6) (d : Fin 3) : (sched (F := F) m).payload (recvCell c k) 0 d = gotAt m c k := by
  show rolePay m c d (role (.dma (recvS k))) = _; rw [role_recv]; rfl

/-- All that a barrier's round hands over: the six receive rows that `c`'s transfers fill. -/
theorem all_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem all_send (k : Fin 6) : bigSep ((sched (F := F) m).duties (sendCell c k) 0 \ ∅) (fun d => (sched (F := F) m).payload (sendCell c k) 0 d)
    = sendPay m c k := by
  rw [Finset.sdiff_empty, duties_send, bigSep_singleton, payload_send]
theorem all_recv (k : Fin 6) : bigSep ((sched (F := F) m).duties (recvCell c k) 0 \ ∅) (fun d => (sched (F := F) m).payload (recvCell c k) 0 d)
    = gotAt m c k := by
  rw [Finset.sdiff_empty, duties_recv, bigSep_singleton, payload_recv]

end Tables

/-! ## What a device owes, and the levels -/

/-- What device `c` owes for its transfer `k`: the row's bytes on the receiver's semaphore. -/
abbrev dueRow (c : Dev nD) (k : Fin 6) : CellTallies nD τ sig Unit := tallyAt (recvCell (fwd (dist k) c) k) () N
/-- What it owes for its signal at distance `e`: one unit on that device's barrier. -/
abbrev dueBar (c : Dev nD) (e : Fin 3) : CellTallies nD τ sig Unit := tallyAt (barCell (fwd e c)) () 1

/-- What device `c` pays when `n` further payments are still to come. -/
def due (c : Dev nD) : ℕ → CellTallies nD τ sig Unit
  | 0 => dueRow c 5
  | 1 => dueRow c 4
  | 2 => dueRow c 3
  | 3 => dueRow c 2
  | 4 => dueRow c 1
  | 5 => dueRow c 0
  | 6 => dueBar c 2
  | 7 => dueBar c 1
  | _ => dueBar c 0
/-- What device `c` owes before its last `n` payments, the next payment last in the sum. -/
def owed (c : Dev nD) : ℕ → CellTallies nD τ sig Unit
  | 0 => 0
  | n + 1 => owed c n + due c n
theorem owed_succ (c : Dev nD) (n : ℕ) : owed c (n + 1) = owed c n + due c n := rfl

/-- Every device waits and pays under the one index. -/
def L (g : GSem nD τ sig) : Finset Unit := if g.1.2 = .tc then {()} else ∅
/-- Barriers stand at level 1, receive semaphores at 2, and everything else at 0. -/
def roleLevel : Role → ℕ
  | .bar => 1
  | .inn _ => 2
  | _ => 0
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything in the tally is owed to a device's semaphore above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tally {n k : ℕ} {g : GSem nD τ sig} (h : g.1.2 = .tc ∧ n < lv g ()) : Above n (tallyAt g () k) := fun g' u hp => by
  rw [tallyAt_apply] at hp
  by_cases e : g' = g ∧ u = ()
  · rw [e.1, e.2]; exact h
  · rw [if_neg e] at hp; exact absurd hp (Nat.lt_irrefl 0)
theorem Above.mono {n n' : ℕ} {O : CellTallies nD τ sig Unit} (h : Above n O) (hn : n' ≤ n) : Above n' O :=
  fun g u hp => ⟨(h g u hp).1, lt_of_le_of_lt hn (h g u hp).2⟩

theorem above_row (c : Dev nD) (k : Fin 6) : Above 1 (dueRow c k) :=
  Above.tally ⟨rfl, by show 1 < roleLevel (role (.dma (recvS k))); rw [role_recv]; exact Nat.lt_succ_self 1⟩
theorem above_bar (c : Dev nD) (e : Fin 3) : Above 0 (dueBar c e) :=
  Above.tally ⟨rfl, by show 0 < roleLevel (role (.reg barS)); rw [role_bar]; decide⟩

/-- With the signals paid, a device owes receive semaphores only. -/
theorem above_rows (c : Dev nD) : ∀ n, n ≤ 6 → Above 1 (owed c n)
  | 0, _ => Above.zero 1
  | n + 1, h => (above_rows c n (by omega)).add (by
      rcases n with _ | _ | _ | _ | _ | _ | n
      all_goals first | exact above_row c _ | (exfalso; omega))
/-- At every moment a device owes nothing of level 0. -/
theorem above_all (c : Dev nD) : ∀ n, n ≤ 9 → Above 0 (owed c n)
  | 0, _ => Above.zero 0
  | n + 1, h => (above_all c n (by omega)).add (by
      rcases n with _ | _ | _ | _ | _ | _ | _ | _ | n
      all_goals first | exact (above_row c _).mono (Nat.zero_le 1) | exact above_bar c _)

/-- A device may wait on a semaphore of level at most `n` while it owes only semaphores above level `n`. -/
theorem may_wait (c : Dev nD) (sm : SemLoc sig) (n : ℕ) (hs : roleLevel (role sm) ≤ n) (O : CellTallies nD τ sig Unit) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.ColSum

end
-- ==== Proof.Steps.lean ====
/-
# The statements of the body, one rule each

The body is straight-line code made of a few kinds of statement: start a copy of a block, wait for it, load the block,
load or store a row of sums, signal a barrier, wait on it, start a transfer of a row, wait for it to leave, wait for
one to arrive.  Each kind has one rule here, stated over the pieces of `Protocol`, so that the walk through the body
only names the block, the slot or the row.
-/
module

public import proofs.«01_k».proof.Proof.Protocol

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UA ℕ

variable (m : (ℓ : Loc nD τ sig) → Buf (Elt F) ℓ)

abbrev 𝒱₀ : Variants := Variants.none

/-- Running a piece of the body on device `c`, to the end `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A piece that is done. -/
theorem run_ret (c : Dev nD) {α : Type} (x : α) {Q : α → sProp 𝕄} : Q x ⊢ Run c (.ret x) Q := by
  unfold Run; rw [wp_ret]; exact fupd_intro

/-- A piece followed by the rest. -/
theorem run_bind (c : Dev nD) {α β : Type} (p : Prog (TpuEff nD τ sig (Elt F) Λ₀ .tc) α) (k : α → Prog (TpuEff nD τ sig (Elt F) Λ₀ .tc) β)
    {Q : β → sProp 𝕄} : Run c (p >>= k) Q = Run c p fun x => Run c (k x) Q :=
  wp_bind _ _ _ p k Q

/-- The barrier semaphore as the body names it. -/
abbrev barA : Sems sig S_ := SemArray.scalar (sig.barrier 0 rfl)

/-- Device `c` with its last `n` payments to come; which waits it has made is not kept. -/
def Owes (c : Dev nD) (n : ℕ) : sProp 𝕄 := iprop(∃ W : Waits sig Unit, owes (c : Thread nD τ) (owed c n) W)

/-! ## The local copies -/

/-- The share of the argument that copies into slot `s` read. -/
def argShare : Fin 2 → PosShare TreeShare
  | 0 => fullShare.left
  | 1 => fullShare.right

/-- Slot `s` with no copy in flight: its half share of the argument and its counter at zero. -/
def idle (c : Dev nD) (s : Fin 2) : sProp 𝕄 :=
  iprop((((c : Thread nD τ).loc main_arg0) ↦[Finset.univ]{argShare s} argOf m c) ∗ semVal ((c : Thread nD τ), .dma (copyS s)) 0)
/-- Slot `s` idle and holding anything. -/
def freeSlot (c : Dev nD) (s : Fin 2) : sProp 𝕄 :=
  iprop((∃ f : Buf (Elt F) ((c : Thread nD τ).loc cc0_scratch0), ((c : Thread nD τ).loc cc0_scratch0) ↦[(bslot s).view.set]{fullShare} f) ∗ idle m c s)
/-- Slot `s` idle and holding a block that loads as `v`. -/
def fullSlot (c : Dev nD) (s : Fin 2) (v : Vec F S1x256x1024 .f32) : sProp 𝕄 :=
  iprop((∃ f : Buf (Elt F) ((c : Thread nD τ).loc cc0_scratch0), ⌜(bM.access (brect s)).read (Elt F) f = v⌝ ∗
    ((c : Thread nD τ).loc cc0_scratch0) ↦[(bslot s).view.set]{fullShare} f) ∗ idle m c s)
/-- The bytes of one block. -/
abbrev NB : ℕ := (bslot 0).view.dmaCredit
theorem NB_pos : 0 < NB := View.dmaCredit_pos _ (by decide)
theorem credit_bslot (s : Fin 2) : (bslot s).view.dmaCredit = NB := by fin_cases s <;> rfl
/-- Slot `s` with block `b` on its way. -/
def busySlot (c : Dev nD) (s : Fin 2) (b : Fin 8) : sProp 𝕄 :=
  iprop((∃ f : Buf (Elt F) ((c : Thread nD τ).loc cc0_scratch0),
      Transfers.Flight EC (c : Thread nD τ) (.dma (copyS s)) () NB
        iprop((((c : Thread nD τ).loc cc0_scratch0) ↦[(bslot s).view.set]{fullShare}
            ((bslot s).view.write (Elt F) f ((ablk b).view.read (Elt F) (argOf m c)) Finset.univ))
          ∗ (((c : Thread nD τ).loc main_arg0) ↦[(ablk b).view.set]{argShare s} argOf m c)))
    ∗ (((c : Thread nD τ).loc main_arg0) ↦[Finset.univ \ (ablk b).view.set]{argShare s} argOf m c))

/-- A slot that holds a block may take the next. -/
theorem fullSlot_free (c : Dev nD) (s : Fin 2) (v : Vec F S1x256x1024 .f32) : fullSlot m c s v ⊢ freeSlot m c s := by
  unfold fullSlot freeSlot
  iintro ⟨⟨%f, %hf, H⟩, Hi⟩
  isplitl [H]
  · iexists f; iexact H
  iexact Hi

/-- A slot is the same elements with its leading axis and without. -/
theorem set_bslot (s : Fin 2) : (bslot s).view.set = (bM.access (brect s)).set :=
  View.set_reshape (bM.access (brect s)) (squeezes_S1x256x1024_S256x1024).numel_eq

/-- What a block written through its slot loads as. -/
theorem read_landed (s : Fin 2) (f : (bM.access (brect s)).ty.Contents (Elt F)) (w : Vec F S256x1024 .f32) :
    (bM.access (brect s)).read (Elt F) ((bslot s).view.write (Elt F) f w Finset.univ)
      = fun x => w ((Shape.reshapeEquiv (squeezes_S1x256x1024_S256x1024).numel_eq).symm x) := by
  funext x
  obtain ⟨y, rfl⟩ := (Shape.reshapeEquiv (squeezes_S1x256x1024_S256x1024).numel_eq).surjective x
  rw [Equiv.symm_apply_apply]
  exact View.read_write_reshape (bM.access (brect s)) (squeezes_S1x256x1024_S256x1024).numel_eq f w y

/-- Starting the copy of block `b` into slot `s`. -/
theorem wp_start (c : Dev nD) (s : Fin 2) (b : Fin 8)
    {src : Memref sig .tc .hbm S256x1024 .f32} {dst : Memref sig .tc .vmem S256x1024 .f32} {q : DmaSem sig}
    (hs : src = ablk b) (hd : dst = bslot s) (hq : q = copyS s)
    {hsrc : src.view.WordExact} {hdst : dst.view.WordExact} {hsem : DmaTarget.Typed (nD := nD) (τ := τ) (p := .tc) .hbm (.dma q) (.here dst)}
    {α : Type} {Q : α → sProp 𝕄} {k : PUnit → Prog (TpuEff nD τ sig (Elt F) Λ₀ .tc) α} :
    freeSlot m c s ⊢ iprop((busySlot m c s b -∗ Run c (k ⟨⟩) Q)
      -∗ Run c (.op (.enqueueDma src (.here dst) (.dma q) hsrc hdst hsem) k) Q) := by
  subst hs hd hq
  unfold freeSlot idle busySlot
  iintro ⟨⟨%f, Hd⟩, Ha, Hv⟩ Hk
  ihave H := (pointsTo_split_subset (Finset.subset_univ (ablk b).view.set)).1 $$ Ha
  icases H with ⟨Hs, Hr⟩
  iapply (Transfers.wp_dmaLocal EC 𝒱₀ (c : Thread nD τ) none (src := ablk b) (dst := bslot s) (via := .same) (q := argShare s)
    (fs := argOf m c) (Sd := (bslot s).view.set) (fd := f) () NB ((View.amount_dma _ _).trans (credit_bslot s)) NB_pos (Finset.Subset.refl _)) $$ [Hs Hd Hv]
  · isplitl [Hs]; · iexact Hs
    isplitl [Hd]; · iexact Hd
    iexact Hv
  iintro HF
  iapply Hk
  isplitl [HF]
  · iexists f; iexact HF
  iexact Hr

/-- Waiting for the copy of block `b` into slot `s`. -/
theorem wp_arrive (c : Dev nD) (s : Fin 2) (b : Fin 8)
    {src : Memref sig .tc .hbm S256x1024 .f32} {dst : Memref sig .tc .vmem S256x1024 .f32} {q : DmaSem sig}
    (hd : dst = bslot s) (hq : q = copyS s)
    {hsrc : src.view.WordExact} {hdst : dst.view.WordExact} (n : ℕ) (hn : n ≤ 9)
    {α : Type} {Q : α → sProp 𝕄} {k : PUnit → Prog (TpuEff nD τ sig (Elt F) Λ₀ .tc) α} :
    iprop(busySlot m c s b ∗ Owes (F := F) c n ∗ levAts L lv)
      ⊢ iprop((fullSlot m c s (blkOf m c b) ∗ Owes (F := F) c n -∗ Run c (k ⟨⟩) Q)
      -∗ Run c (.op (.waitDma2 q src dst hsrc hdst) k) Q) := by
  subst hd hq
  unfold fullSlot idle busySlot Owes
  iintro ⟨⟨⟨%f, HF⟩, Hr⟩, ⟨%W, HO⟩, #Hlev⟩ Hk
  iapply (Transfers.wp_waitLocalO EC 𝒱₀ (c : Thread nD τ) none () (credit_bslot s)) $$ [HF HO]
  · isplitl [HF]; · iexact HF
    isplitl [HO]; · iexact HO
    iapply (may_wait c (.dma (copyS s)) 0 (by rw [role_copy]; exact Nat.le_refl 0) (owed c n) (above_all c n hn))
    iexact Hlev
  iintro ⟨⟨Hd, Hs⟩, Hv, HO⟩
  iapply Hk
  isplitr [HO]
  · isplitl [Hd]
    · iexists _
      isplitr
      rotate_left
      · iexact Hd
      · ipureintro
        exact read_landed s f _
    isplitr [Hv]
    · iapply (pointsTo_split_subset (Finset.subset_univ (ablk b).view.set)).2
      isplitl [Hs]; · iexact Hs
      iexact Hr
    iexact Hv
  iexists _; iexact HO

/-- Loading the block in slot `s`. -/
theorem wp_load_block (c : Dev nD) (s : Fin 2) (v : Vec F S1x256x1024 .f32)
    {hl : bM.view.LoadsAt (brect s).toLoadRect}
    {α : Type} {Q : α → sProp 𝕄} {k : Vec F S1x256x1024 .f32 → Prog (TpuEff nD τ sig (Elt F) Λ₀ .tc) α} :
    fullSlot m c s v ⊢ iprop((fullSlot m c s v -∗ Run c (k v) Q)
      -∗ Run c (.op (.load bM (brect s).toLoadRect hl) k) Q) := by
  unfold fullSlot
  iintro ⟨⟨%f, %hf, H⟩, Hi⟩ Hk
  iapply (wp_load_rect 𝒱₀ (c : Thread nD τ) none Set.univ (m := bM) (r := brect s) (S := (bslot s).view.set)
    (set_bslot s).ge) $$ H
  iintro H
  rw [hf]
  iapply Hk
  isplitl [H]
  · iexists f
    isplitr; · (ipureintro; exact hf)
    iexact H
  iexact Hi

/-! ## The rows of sums -/

/-- Row `h` of device `c`'s sums, held whole, holding anything. -/
def rowAny (c : Dev nD) (h : Fin 2) : sProp 𝕄 :=
  iprop(∃ f : Buf (Elt F) ((c : Thread nD τ).loc cc0_scratch1), ((c : Thread nD τ).loc cc0_scratch1) ↦[(prow h).view.set]{fullShare} f)

/-- Either row of a buffer whose rows both hold `v` reads `v`. -/
theorem read_twice (c : Dev nD) (h : Fin 2) (v : Vec F S1x1024 .f32) : (pM.access (prect h)).read (Elt F) (twice c v) = v := by
  funext x
  show v _ = v x
  congr 1
  funext a
  match a with
  | ⟨0, _⟩ => exact Fin.ext (by have := (x 0).isLt; show 0 = (x 0).val; exact (Nat.lt_one_iff.mp this).symm)
  | ⟨1, _⟩ => exact Fin.ext ((Nat.zero_add _).trans (Nat.one_mul _))

/-- A row written over anything holds what was written. -/
theorem row_written (c : Dev nD) (h : Fin 2) (f : Buf (Elt F) ((c : Thread nD τ).loc cc0_scratch1)) (v : Vec F S1x1024 .f32) :
    ((((c : Thread nD τ).loc cc0_scratch1) ↦[(prow h).view.set]{fullShare} ((pM.access (prect h)).write (Elt F) f v Finset.univ)) : sProp 𝕄)
      = rowAt c h fullShare v := by
  unfold rowAt
  refine pointsTo_congr fun i hi => ?_
  obtain ⟨x, -, rfl⟩ := Finset.mem_map.mp hi
  refine View.eq_of_read_eq (v := pM.access (prect h)) (x := x) ?_
  rw [View.read_write_univ, read_twice]

/-- Loading row `h`, whatever it holds. -/
theorem wp_load_any (c : Dev nD) (h : Fin 2) {hl : pM.view.LoadsAt (prect h).toLoadRect}
    {α : Type} {Q : α → sProp 𝕄} {k : Vec F S1x1024 .f32 → Prog (TpuEff nD τ sig (Elt F) Λ₀ .tc) α} :
    rowAny (F := F) c h ⊢ iprop((∀ v, rowAny (F := F) c h -∗ Run c (k v) Q) -∗ Run c (.op (.load pM (prect h).toLoadRect hl) k) Q) := by
  unfold rowAny
  iintro ⟨%f, H⟩ Hk
  iapply (wp_load_rect 𝒱₀ (c : Thread nD τ) none Set.univ (m := pM) (r := prect h) (S := (prow h).view.set) (Finset.Subset.refl _)) $$ H
  iintro H
  iapply Hk $$ %((pM.access (prect h)).read (Elt F) f)
  iexists f; iexact H

/-- Loading row `h`. -/
theorem wp_load_row (c : Dev nD) (h : Fin 2) (q : PosShare TreeShare) (v : Vec F S1x1024 .f32) {hl : pM.view.LoadsAt (prect h).toLoadRect}
    {α : Type} {Q : α → sProp 𝕄} {k : Vec F S1x1024 .f32 → Prog (TpuEff nD τ sig (Elt F) Λ₀ .tc) α} :
    rowAt c h q v ⊢ iprop((rowAt c h q v -∗ Run c (k v) Q) -∗ Run c (.op (.load pM (prect h).toLoadRect hl) k) Q) := by
  unfold rowAt
  iintro H Hk
  iapply (wp_load_rect 𝒱₀ (c : Thread nD τ) none Set.univ (m := pM) (r := prect h) (S := (prow h).view.set) (Finset.Subset.refl _)) $$ H
  iintro H
  rw [read_twice]
  iapply Hk
  iexact H

/-- A held row holds something. -/
theorem rowAt_any (c : Dev nD) (h : Fin 2) (v : Vec F S1x1024 .f32) : rowAt c h fullShare v ⊢ rowAny (F := F) c h := by
  unfold rowAt rowAny
  iintro H; iexists _; iexact H

/-- Storing row `h`. -/
theorem wp_store_row (c : Dev nD) (h : Fin 2) (v : Vec F S1x1024 .f32)
    {hx : (pM.access (prect h)).Stores Finset.univ} {hm : (Finset.univ : Finset (prect h).shape.Idx) = Finset.univ ∨ ∀ a, (prect h).stride a = 1}
    {α : Type} {Q : α → sProp 𝕄} {k : PUnit → Prog (TpuEff nD τ sig (Elt F) Λ₀ .tc) α} :
    rowAny (F := F) c h ⊢ iprop((rowAt c h fullShare v -∗ Run c (k ⟨⟩) Q) -∗ Run c (.op (.store pM (prect h) v Finset.univ hx hm) k) Q) := by
  unfold rowAny
  iintro ⟨%f, H⟩ Hk
  iapply (wp_store 𝒱₀ (c : Thread nD τ) none Set.univ (m := pM) (r := prect h) (Mk := Finset.univ) (S := (prow h).view.set) (Finset.Subset.refl _)) $$ H
  iintro H
  iapply Hk
  iapply (Entails.of_eq (row_written c h f v))
  iexact H

/-- A row held whole is its three shares. -/
theorem row_shares (c : Dev nD) (h : Fin 2) (v : Vec F S1x1024 .f32) :
    rowAt c h fullShare v ⊣⊢ iprop(rowAt c h (third 0) v ∗ rowAt c h (third 1) v ∗ rowAt c h (third 2) v) := by
  have h1 := pointsTo_share (Name := ℕ) (U := UA) (Lvl := ℕ) (Ix := Unit) (ℓ := (c : Thread nD τ).loc cc0_scratch1) (I := (prow h).view.set)
    (f := twice c v) (PosShare.mem_left_op_right fullShare)
  have h2 := pointsTo_share (Name := ℕ) (U := UA) (Lvl := ℕ) (Ix := Unit) (ℓ := (c : Thread nD τ).loc cc0_scratch1) (I := (prow h).view.set)
    (f := twice c v) (PosShare.mem_left_op_right fullShare.right)
  exact ⟨h1.1.trans (sep_mono_right h2.1), (sep_mono_right h2.2).trans h1.2⟩

/-! ## The shared semaphores -/

set_option backward.proofsInPublic true in
/-- The thirteen semaphores of a device that other devices touch or that a transfer of its own completes on: the
    barrier, six for rows leaving, six for rows arriving. -/
def csem (j : Fin 13) : SemLoc sig := if h : j.val = 0 then .reg barS else .dma ⟨j.val + 2, by revert j; decide⟩
/-- They are one family over the devices. -/
abbrev kcell (x : Dev nD × Fin 13) : GSem nD τ sig := ((x.1 : Thread nD τ), csem x.2)
set_option backward.proofsInPublic true in
def outIx (k : Fin 6) : Fin 13 := ⟨1 + k.val, by omega⟩
set_option backward.proofsInPublic true in
def innIx (k : Fin 6) : Fin 13 := ⟨7 + k.val, by omega⟩
theorem csem_bar : csem 0 = .reg barS := rfl
theorem csem_out (k : Fin 6) : csem (outIx k) = .dma (sendS k) := by fin_cases k <;> rfl
theorem csem_inn (k : Fin 6) : csem (innIx k) = .dma (recvS k) := by fin_cases k <;> rfl

/-- Every shared semaphore follows the schedule and has reached round 0; `K` names the records. -/
def records (K : Dev nD × Fin 13 → ℕ) : sProp 𝕄 :=
  bigSep Finset.univ fun x : Dev nD × Fin 13 => iprop(cellInv ES (sched m) (K x) (kcell x) ∗ reached ES (kcell x) 0)
instance records_persistent (K : Dev nD × Fin 13 → ℕ) : BI.Persistent (records (F := F) m K) := by unfold records; infer_instance

variable (K : Dev nD × Fin 13 → ℕ)

/-- The record of one of them. -/
theorem records_at (x : Dev nD × Fin 13) : records m K ⊢ iprop(cellInv ES (sched m) (K x) (kcell x) ∗ reached ES (kcell x) 0) :=
  bigSep_elim (Finset.mem_univ x)
theorem records_bar (c : Dev nD) : records m K ⊢ iprop(cellInv ES (sched m) (K (c, 0)) (barCell c) ∗ reached ES (barCell c) 0) :=
  records_at m K (c, 0)
theorem records_out (c : Dev nD) (k : Fin 6) :
    records m K ⊢ iprop(cellInv ES (sched m) (K (c, outIx k)) (sendCell c k) ∗ reached ES (sendCell c k) 0) := by
  have h := records_at m K (c, outIx k)
  dsimp only [kcell] at h
  rwa [csem_out] at h
theorem records_inn (c : Dev nD) (k : Fin 6) :
    records m K ⊢ iprop(cellInv ES (sched m) (K (c, innIx k)) (recvCell c k) ∗ reached ES (recvCell c k) 0) := by
  have h := records_at m K (c, innIx k)
  dsimp only [kcell] at h
  rwa [csem_inn] at h

/-- What every step may use again and again: the records and the levels. -/
def Known : sProp 𝕄 := iprop(records m K ∗ levAts L lv)
instance known_persistent : BI.Persistent (Known (F := F) m K) := by unfold Known; infer_instance

/-- The right to signal the barrier at distance `e`. -/
def sigTok (c : Dev nD) (e : Fin 3) : sProp 𝕄 := dutyTok ES (barCell (fwd e c)) 0 (back e)
/-- The right to start transfer `k`. -/
def sendTok (c : Dev nD) (k : Fin 6) : sProp 𝕄 :=
  iprop(dutyTok ES (sendCell c k) 0 0 ∗ dutyTok ES (recvCell (fwd (dist k) c) k) 0 0)
/-- The right to wait on the own barrier. -/
def barTurn (c : Dev nD) : sProp 𝕄 := iprop(atPos ES (barCell c) 0 ∅ 0 ∗ cred (tallyAt (barCell c) () 3))
/-- The right to wait for transfer `k` to leave, before it is started and after. -/
def outTurn (c : Dev nD) (k : Fin 6) : sProp 𝕄 := atPos ES (sendCell c k) 0 ∅ 0
def outCred (c : Dev nD) (k : Fin 6) : sProp 𝕄 := cred (tallyAt (sendCell c k) () N)
/-- The right to wait for row `k` to arrive. -/
def innTurn (c : Dev nD) (k : Fin 6) : sProp 𝕄 := iprop(atPos ES (recvCell c k) 0 ∅ 0 ∗ cred (tallyAt (recvCell c k) () N))

/-- The signal at distance `e`: the two rows that the signalled device's transfers fill go with it. -/
theorem wp_signal_at (c : Dev nD) (e : Fin 3) (n : ℕ) (hn : due c n = dueBar c e)
    {d : Dev nD} (hd : d = fwd e c) {s : Sem sig} (hs : s = barS) {x : ℤ} (hx : x = 1)
    {α : Type} {Q : α → sProp 𝕄} {k : PUnit → Prog (TpuEff nD τ sig (Elt F) Λ₀ .tc) α} :
    iprop(Known m K ∗ Owes (F := F) c (n + 1) ∗ sigTok (F := F) c e ∗ roomAt (F := F) c (slot 0 (back e)) ∗ roomAt (F := F) c (slot 1 (back e)))
      ⊢ iprop((Owes (F := F) c n -∗ Run c (k ⟨⟩) Q) -∗ Run c (.op (.semSignal ((d : Dev nD) : Thread nD τ) s x) k) Q) := by
  subst hd hs hx
  unfold Known Owes sigTok
  iintro ⟨⟨#HR, -⟩, ⟨%W, HO⟩, Ht, Hr0, Hr1⟩ Hk
  ihave HI := (records_bar m K (fwd e c)) $$ HR
  icases HI with ⟨#HI, #Hre⟩
  iapply (Rounds.wp_signal 𝒱₀ ES (sched m) (c : Thread nD τ) none (dst := (fwd e c : Thread nD τ)) (κ := K (fwd e c, 0))
      (d := back e) (by rw [duties_bar]; exact Finset.mem_univ _) ((amount_bar m (fwd e c) (back e)).trans (by decide)) () (owed c n)
      (congrArg (owed c n + ·) hn)) $$ [HO Ht Hr0 Hr1]
  · isplitr; · iexact HI
    isplitl [HO]; · iexact HO
    isplitl [Ht]; · iexact Ht
    isplitl [Hr0 Hr1]
    · rw [payload_bar]; unfold barPay; rw [back_fwd]
      isplitl [Hr0]; · iexact Hr0
      iexact Hr1
    iexact Hre
  iintro HO
  iapply Hk
  iexists W; iexact HO

/-- The wait for the three other devices' signals: the six rows that this device's transfers fill come with them, and
    the barrier is at zero for good. -/
theorem wp_barrier (c : Dev nD) {s : Sem sig} (hs : s = barS) {x : ℕ} (hx : x = 3)
    {α : Type} {Q : α → sProp 𝕄} {k : PUnit → Prog (TpuEff nD τ sig (Elt F) Λ₀ .tc) α} :
    iprop(Known m K ∗ Owes (F := F) c 6 ∗ barTurn (F := F) c)
      ⊢ iprop((Owes (F := F) c 6 ∗ semVal (barCell c) 0 ∗ barPay (F := F) c 0 ∗ barPay (F := F) c 1 ∗ barPay (F := F) c 2 -∗ Run c (k ⟨⟩) Q)
        -∗ Run c (.op (.semWait s x) k) Q) := by
  subst hs hx
  unfold Known Owes barTurn
  iintro ⟨⟨#HR, #Hlev⟩, ⟨%W, HO⟩, Hat, Hc⟩ Hk
  ihave HI := (records_bar m K c) $$ HR
  icases HI with ⟨#HI, -⟩
  iapply (Rounds.wp_wait_rest_token 𝒱₀ ES (sched m) (c : Thread nD τ) none (κ := K (c, 0))
      (wpE_semWait_eq 𝒱₀ (c : Thread nD τ) none Set.univ) (Set.mem_univ _) () (O := owed c 6) (W := W) (R := 0) (m := 0) (T := ∅)
      (by rw [expect_bar])) $$ [Hc HO Hat]
  · isplitr; · iexact HI
    isplitl [Hc]; · iexact Hc
    isplitl [HO]; · iexact HO
    isplitr
    · iapply (may_wait c (.reg barS) 1 (by rw [role_bar]; exact Nat.le_refl 1) (owed c 6) (above_rows c 6 (Nat.le_refl 6))); iexact Hlev
    iexact Hat
  iintro ⟨HO, Hat, -, Hpay⟩
  ihave Hp := (Entails.of_eq (all_bar m c)) $$ Hpay
  imod (Rounds.cell_close ES (sched m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- Row `k` of what device `c` receives. -/
theorem read_got (c : Dev nD) (k : Fin 6) :
    (rM.access (rrect k)).read (Elt F) (gotOf m c) = sumOf m (fwd (back (dist k)) c) (half k) := by
  funext x
  show sumOf m (fwd (back (dist ((rrect k).emb x 0))) c) (half ((rrect k).emb x 0)) (ix2 0 ((rrect k).emb x 1)) = _
  have h0 : (rrect k).emb x 0 = k := Fin.ext (by
    have := (x 0).isLt
    rw [Rect.emb_apply]
    show k.val + 1 * (x 0).val = k.val
    have : (x 0).val < 1 := this
    omega)
  rw [h0]
  congr 1
  funext a
  match a with
  | ⟨0, _⟩ => exact Fin.ext (by have := (x 0).isLt; show 0 = (x 0).val; exact (Nat.lt_one_iff.mp this).symm)
  | ⟨1, _⟩ => exact Fin.ext ((Nat.zero_add _).trans (Nat.one_mul _))

/-- A row of sums landed in its place is the row its receiver was meant to get. -/
theorem row_landed (c : Dev nD) (k : Fin 6) (f : Buf (Elt F) ((fwd (dist k) c : Thread nD τ).loc cc0_scratch2)) :
    ((((fwd (dist k) c : Thread nD τ).loc cc0_scratch2) ↦[(rrow k).view.set]{fullShare}
        ((rrow k).view.write (Elt F) f ((prow (half k)).view.read (Elt F) (twice c (sumOf m c (half k)))) Finset.univ)) : sProp 𝕄)
      = gotAt m (fwd (dist k) c) k := by
  unfold gotAt
  refine pointsTo_congr fun i hi => ?_
  obtain ⟨x, -, rfl⟩ := Finset.mem_map.mp hi
  refine View.eq_of_read_eq (v := rM.access (rrect k)) (x := x) ?_
  rw [read_got, back_fwd]
  refine (congrFun (View.read_write_univ (v := rM.access (rrect k)) f _) x).trans ?_
  exact congrFun (read_twice c (half k) _) x

/-- Starting transfer `k`. -/
theorem wp_send (c : Dev nD) (k : Fin 6) (n : ℕ) (hn : due c n = dueRow c k)
    {d : Dev nD} (hd : d = fwd (dist k) c) {src : Memref sig .tc .vmem S1x1024 .f32} (hs : src = prow (half k))
    {dst : Memref sig (Dev.tc d : Thread nD τ).2.kind .vmem S1x1024 .f32} (ht : dst = (rrow k : Memref sig .tc .vmem S1x1024 .f32))
    {q q' : DmaSem sig} (hq : q = sendS k) (hq' : q' = recvS k)
    {hsc : dst.view.ref.isScScratch = false} {hsrc : src.view.WordExact} {hdst : dst.view.WordExact}
    {hsem : DmaTarget.Typed (nD := nD) (τ := τ) (p := .tc) .vmem (.dma q') (.remote (Dev.tc d : Thread nD τ) dst (.dma q) hsc)}
    {α : Type} {Q : α → sProp 𝕄} {p : PUnit → Prog (TpuEff nD τ sig (Elt F) Λ₀ .tc) α} :
    iprop(Known m K ∗ Owes (F := F) c (n + 1) ∗ sendTok (F := F) c k ∗ sendPay m c k ∗ roomAt (F := F) (fwd (dist k) c) k)
      ⊢ iprop((Owes (F := F) c n ∗ outCred (F := F) c k -∗ Run c (p ⟨⟩) Q)
        -∗ Run c (.op (.enqueueDma src (.remote (Dev.tc d : Thread nD τ) dst (.dma q) hsc) (.dma q') hsrc hdst hsem) p) Q) := by
  subst hd
  cases ht
  subst hs hq hq'
  unfold Known Owes sendTok sendPay rowAt roomAt outCred
  iintro ⟨⟨#HR, -⟩, ⟨%W, HO⟩, ⟨Ht, Ht'⟩, Hrow, ⟨%f, Hroom⟩⟩ Hk
  ihave HI := (records_out m K c k) $$ HR
  icases HI with ⟨#HI, #Hre⟩
  ihave HI' := (records_inn m K (fwd (dist k) c) k) $$ HR
  icases HI' with ⟨#HI', #Hre'⟩
  iapply (Rounds.wp_send_pointsTo 𝒱₀ ES (sched m) (c : Thread nD τ) none (κ₁ := K (c, outIx k)) (κ₂ := K (fwd (dist k) c, innIx k))
    (r₁ := 0) (r₂ := 0) (d₁ := 0) (d₂ := 0) (fd := f) (fs := twice c (sumOf m c (half k))) (q := third (dist k))
    (src := prow (half k)) (dst := rrow k) (c' := (Dev.tc (fwd (dist k) c) : Thread nD τ))
    (by rw [duties_send]; exact Finset.mem_singleton_self _) (by rw [duties_recv]; exact Finset.mem_singleton_self _)
    () () N ((View.amount_dma _ _).trans (credit_rrow k)) (amount_send m c k 0) (amount_recv m (fwd (dist k) c) k 0) (owed c n) (congrArg (owed c n + ·) hn) (W := W)
    (by rw [payload_send]; exact BI.Entails.refl _)
    (by rw [payload_recv, ← row_landed])) $$ [HO Ht Ht' Hrow Hroom]
  · isplitr; · iexact HI
    isplitr; · iexact HI'
    isplitl [Hrow]; · iexact Hrow
    isplitl [Hroom]; · iexact Hroom
    isplitl [HO]; · iexact HO
    isplitl [Ht]; · iexact Ht
    isplitr; · iexact Hre
    isplitl [Ht']; · iexact Ht'
    iexact Hre'
  iintro ⟨Hc, HO⟩
  iapply Hk
  isplitl [HO]; · iexists W; iexact HO
  iexact Hc

/-- Waiting for transfer `k` to leave: its share of the row is back, and its semaphore is at zero for good. -/
theorem wp_left (c : Dev nD) (k : Fin 6) {q : DmaSem sig} (hq : q = sendS k)
    {src dst : Memref sig .tc .vmem S1x1024 .f32} (hc : dst.view.dmaCredit = N)
    {hsrc : src.view.WordExact} {hdst : dst.view.WordExact}
    {α : Type} {Q : α → sProp 𝕄} {p : PUnit → Prog (TpuEff nD τ sig (Elt F) Λ₀ .tc) α} :
    iprop(Known m K ∗ Owes (F := F) c 0 ∗ outTurn (F := F) c k ∗ outCred (F := F) c k)
      ⊢ iprop((Owes (F := F) c 0 ∗ sendPay m c k ∗ semVal (sendCell c k) 0 -∗ Run c (p ⟨⟩) Q)
        -∗ Run c (.op (.waitDma2 q src dst hsrc hdst) p) Q) := by
  subst hq
  unfold Known Owes outTurn outCred
  iintro ⟨⟨#HR, -⟩, ⟨%W, HO⟩, Hat, Hc⟩ Hk
  ihave HI := (records_out m K c k) $$ HR
  icases HI with ⟨#HI, -⟩
  iapply (Rounds.wp_wait_rest_token 𝒱₀ ES (sched m) (c : Thread nD τ) none (κ := K (c, outIx k))
      (wpE_waitDma2_eq 𝒱₀ (c : Thread nD τ) none Set.univ) (Set.mem_univ _) () (O := owed c 0) (W := W) (R := 0) (m := 0) (T := ∅)
      (by rw [Nat.zero_add, expect_send, hc])) $$ [Hc HO Hat]
  · isplitr; · iexact HI
    isplitl [Hc]; · rw [hc]; iexact Hc
    isplitl [HO]; · iexact HO
    isplitr; · rw [show owed c 0 = 0 from rfl, MayWait_zero]; iempintro
    iexact Hat
  iintro ⟨HO, Hat, -, Hpay⟩
  ihave Hp := (Entails.of_eq (all_send m c k)) $$ Hpay
  imod (Rounds.cell_close ES (sched m) (Set.mem_univ (K (c, outIx k))) (fun h => h) (R := 0 + 1) (duties_later m (sendCell c k))) $$ [Hat] with Hz
  · isplitr; · iexact HI
    iexact Hat
  iapply Hk
  isplitl [HO]; · iexists _; iexact HO
  isplitl [Hp]; · iexact Hp
  iexact Hz

/-- Waiting for row `k` to arrive. -/
theorem wp_got (c : Dev nD) (k : Fin 6) {q : DmaSem sig} (hq : q = recvS k)
    {src dst : Memref sig .tc .vmem S1x1024 .f32} (hc : dst.view.dmaCredit = N)
    {hsrc : src.view.WordExact} {hdst : dst.view.WordExact}
    {α : Type} {Q : α → sProp 𝕄} {p : PUnit → Prog (TpuEff nD τ sig (Elt F) Λ₀ .tc) α} :
    iprop(Known m K ∗ Owes (F := F) c 0 ∗ innTurn (F := F) c k)
      ⊢ iprop((Owes (F := F) c 0 ∗ gotAt m c k ∗ semVal (recvCell c k) 0 -∗ Run c (p ⟨⟩) Q)
        -∗ Run c (.op (.waitDma2 q src dst hsrc hdst) p) Q) := by
  subst hq
  unfold Known Owes innTurn
  iintro ⟨⟨#HR, -⟩, ⟨%W, HO⟩, Hat, Hc⟩ Hk
  ihave HI := (records_inn m K c k) $$ HR
  icases HI with ⟨#HI, -⟩
  iapply (Rounds.wp_wait_rest_token 𝒱₀ ES (sched m) (c : Thread nD τ) none (κ := K (c, innIx k))
      (wpE_waitDma2_eq 𝒱₀ (c : Thread nD τ) none Set.univ) (Set.mem_univ _) () (O := owed c 0) (W := W) (R := 0) (m := 0) (T := ∅)
      (by rw [Nat.zero_add, expect_recv, hc])) $$ [Hc HO Hat]
  · isplitr; · iexact HI
    isplitl [Hc]; · rw [hc]; iexact Hc
    isplitl [HO]; · iexact HO
    isplitr; · rw [show owed c 0 = 0 from rfl, MayWait_zero]; iempintro
    iexact Hat
  iintro ⟨HO, Hat, -, Hpay⟩
  ihave Hp := (Entails.of_eq (all_recv m c k)) $$ Hpay
  imod (Rounds.cell_close ES (sched m) (Set.mem_univ (K (c, innIx k))) (fun h => h) (R := 0 + 1) (duties_later m (recvCell c k))) $$ [Hat] with Hz
  · isplitr; · iexact HI
    iexact Hat
  iapply Hk
  isplitl [HO]; · iexists _; iexact HO
  isplitl [Hp]; · iexact Hp
  iexact Hz

end Cert.ColSum

end
-- ==== Proof.PartsLo.lean ====
/-
# The body, part by part: the first half of the blocks

Each theorem of this file runs one part of the body from the pieces that part touches to what it leaves of them.
-/
module

public import proofs.«01_k».proof.Proof.Steps

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (K : Dev nD × Fin 13 → ℕ) (c : Dev nD)
variable (o : Memref sig .tc .vmem S1x1024 .f32)
variable {h0 : aM.IsWhole} {h1 : o.IsWhole} {h2 : bM.IsWhole} {h3 : pM.IsWhole} {h4 : rM.IsWhole}

/-- The first part: the signals at distances 1 and 2. -/
theorem part1 {Q : _ → sProp 𝕄} :
    iprop(Known m K ∗ Owes (F := F) c 9 ∗ (sigTok (F := F) c 0 ∗ roomAt (F := F) c 2 ∗ roomAt (F := F) c 5)
        ∗ (sigTok (F := F) c 1 ∗ roomAt (F := F) c 1 ∗ roomAt (F := F) c 4))
      ⊢ iprop((∀ v2 v30 w v31, Owes (F := F) c 7 -∗ Q ⟨c, v2, barA, v30, w, v31⟩)
        -∗ Run c (k0_part1 aM h0 o h1 bM h2 pM h3 rM h4 cc0_scratch3 cc0_scratch4 cc0_scratch5) Q) := by
  simp only [k0_part1_eq_skeleton]; unfold k0_part1_skel
  simp only [semSignalWord, Prog.lift, Prog.bind_op, Prog.bind_ret, Prog.pure_eq_ret, wp_deviceId]
  iintro ⟨#HK, HO, ⟨Ht0, Ha0, Hb0⟩, ⟨Ht1, Ha1, Hb1⟩⟩ Hk
  iapply (wp_signal_at m K c 0 8 rfl (dev1_eq c) rfl (by decide)) $$ [HO Ht0 Ha0 Hb0]
  · isplitr; · iexact HK
    isplitl [HO]; · iexact HO
    isplitl [Ht0]; · iexact Ht0
    isplitl [Ha0]; · iexact Ha0
    iexact Hb0
  iintro HO
  iapply (wp_signal_at m K c 1 7 rfl (dev2_eq c) rfl (by decide)) $$ [HO Ht1 Ha1 Hb1]
  · isplitr; · iexact HK
    isplitl [HO]; · iexact HO
    isplitl [Ht1]; · iexact Ht1
    isplitl [Ha1]; · iexact Ha1
    iexact Hb1
  iintro HO
  iapply (run_ret c)
  iapply Hk; iexact HO

/-- The second part: the signal at distance 3, the copies of blocks 0 and 1 started, block 0 loaded. -/
theorem part2 (v2 v30 : BitVec 32) (w : BitVec 32) (v31 : BitVec 1) {Q : _ → sProp 𝕄} :
    iprop(Known m K ∗ Owes (F := F) c 7 ∗ (sigTok (F := F) c 2 ∗ roomAt (F := F) c 0 ∗ roomAt (F := F) c 3)
        ∗ freeSlot m c 0 ∗ freeSlot m c 1)
      ⊢ iprop((Owes (F := F) c 6 ∗ fullSlot m c 0 (blkOf m c 0) ∗ busySlot m c 1 1 -∗ Q (k0_pay2 (blkOf m c 0)))
        -∗ Run c (k0_part2 aM h0 o h1 bM h2 pM h3 rM h4 cc0_scratch3 cc0_scratch4 cc0_scratch5 c barA v30 w v31) Q) := by
  simp only [k0_part2_eq_skeleton]; unfold k0_part2_skel
  simp only [semSignalWord, Prog.lift, Prog.bind_op, Prog.bind_ret, Prog.pure_eq_ret]
  iintro ⟨#HK, HO, ⟨Ht, Ha, Hb⟩, H0, H1⟩ Hk
  iapply (wp_signal_at m K c 2 6 rfl (dev3_eq c) rfl (by decide)) $$ [HO Ht Ha Hb]
  · isplitr; · iexact HK
    isplitl [HO]; · iexact HO
    isplitl [Ht]; · iexact Ht
    isplitl [Ha]; · iexact Ha
    iexact Hb
  iintro HO
  iapply (wp_start m c 0 0 rfl rfl rfl) $$ H0
  iintro H0
  iapply (wp_start m c 1 1 rfl rfl rfl) $$ H1
  iintro H1
  unfold Known
  icases HK with ⟨-, #Hlev⟩
  iapply (wp_arrive m c 0 0 rfl rfl 6 (by decide)) $$ [H0 HO]
  · isplitl [H0]; · iexact H0
    isplitl [HO]; · iexact HO
    iexact Hlev
  iintro ⟨H0, HO⟩
  iapply (wp_load_block m c 0 _) $$ H0
  iintro H0
  iapply (run_ret c)
  iapply Hk
  isplitl [HO]; · iexact HO
  isplitl [H0]; · iexact H0
  iexact H1

/-- The third part: the first row of sums begins with block 0; block 2 is started, block 1 arrives and is added. -/
theorem part3 (v : Vec F S1x256x1024 .f32) (v59 : FVec F S256x1024 .f32) {Q : _ → sProp 𝕄} :
    iprop(Known m K ∗ Owes (F := F) c 6 ∗ fullSlot m c 0 v ∗ busySlot m c 1 1 ∗ rowAny (F := F) c 0)
      ⊢ iprop((Owes (F := F) c 6 ∗ busySlot m c 0 2 ∗ fullSlot m c 1 (blkOf m c 1)
            ∗ rowAt c 0 fullShare (k0_pay4 (blkOf m c 1) (k0_pay3 v59)) -∗ Q ⟨⟩)
        -∗ Run c (k0_part3 aM h0 o h1 bM h2 pM h3 rM h4 cc0_scratch3 cc0_scratch4 cc0_scratch5 v59) Q) := by
  simp only [k0_part3_eq_skeleton]; unfold k0_part3_skel
  simp only [Prog.lift, Prog.bind_op, Prog.bind_ret, Prog.pure_eq_ret]
  unfold Known
  iintro ⟨⟨-, #Hlev⟩, HO, H0, H1, Hr⟩ Hk
  iapply (wp_load_any c 0) $$ Hr
  iintro %_ Hr
  iapply (wp_store_row c 0 _) $$ Hr
  iintro Hr
  ihave H0 := (fullSlot_free m c 0 v) $$ H0
  iapply (wp_start m c 0 2 rfl rfl rfl) $$ H0
  iintro H0
  iapply (wp_arrive m c 1 1 rfl rfl 6 (by decide)) $$ [H1 HO]
  · isplitl [H1]; · iexact H1
    isplitl [HO]; · iexact HO
    iexact Hlev
  iintro ⟨H1, HO⟩
  iapply (wp_load_block m c 1 _) $$ H1
  iintro H1
  iapply (wp_load_row c 0 fullShare _) $$ Hr
  iintro Hr
  iapply (wp_load_row c 0 fullShare _) $$ Hr
  iintro Hr
  ihave Hr := (rowAt_any c 0 _) $$ Hr
  iapply (wp_store_row c 0 _) $$ Hr
  iintro Hr
  iapply (run_ret c)
  iapply Hk
  isplitl [HO]; · iexact HO
  isplitl [H0]; · iexact H0
  isplitl [H1]; · iexact H1
  iexact Hr

/-- The fourth part: block 2 is added and block 3 arrives. -/
theorem part4 (v : Vec F S1x256x1024 .f32) (r : Vec F S1x1024 .f32) {Q : _ → sProp 𝕄} :
    iprop(Known m K ∗ Owes (F := F) c 6 ∗ busySlot m c 0 2 ∗ fullSlot m c 1 v ∗ rowAt c 0 fullShare r)
      ⊢ iprop((Owes (F := F) c 6 ∗ busySlot m c 0 4 ∗ fullSlot m c 1 (blkOf m c 3) ∗ rowAt c 0 fullShare (k0_pay5 (blkOf m c 2) r) -∗ Q ⟨⟩)
        -∗ Run c (k0_part4 aM h0 o h1 bM h2 pM h3 rM h4 cc0_scratch3 cc0_scratch4 cc0_scratch5) Q) := by
  simp only [k0_part4_eq_skeleton]; unfold k0_part4_skel
  simp only [semWaitWord, Prog.lift, Prog.bind_op, Prog.bind_ret, Prog.pure_eq_ret]
  unfold Known
  iintro ⟨⟨-, #Hlev⟩, HO, H0, H1, Hr⟩ Hk
  ihave H1 := (fullSlot_free m c 1 _) $$ H1
  iapply (wp_start m c 1 3 rfl rfl rfl) $$ H1
  iintro H1
  iapply (wp_arrive m c 0 2 rfl rfl 6 (by decide)) $$ [H0 HO]
  · isplitl [H0]; · iexact H0
    isplitl [HO]; · iexact HO
    iexact Hlev
  iintro ⟨H0, HO⟩
  iapply (wp_load_block m c 0 _) $$ H0
  iintro H0
  iapply (wp_load_row c 0 fullShare _) $$ Hr
  iintro Hr
  iapply (wp_load_row c 0 fullShare _) $$ Hr
  iintro Hr
  ihave Hr := (rowAt_any c 0 _) $$ Hr
  iapply (wp_store_row c 0 _) $$ Hr
  iintro Hr
  ihave H0 := (fullSlot_free m c 0 _) $$ H0
  iapply (wp_start m c 0 4 rfl rfl rfl) $$ H0
  iintro H0
  iapply (wp_arrive m c 1 3 rfl rfl 6 (by decide)) $$ [H1 HO]
  · isplitl [H1]; · iexact H1
    isplitl [HO]; · iexact HO
    iexact Hlev
  iintro ⟨H1, HO⟩
  iapply (run_ret c)
  iapply Hk
  isplitl [HO]; · iexact HO
  isplitl [H0]; · iexact H0
  isplitl [H1]; · iexact H1
  iexact Hr

/-- The fifth part: block 3 is added, which completes the first row of sums, and the barrier is passed. -/
theorem part5 (v2 : BitVec 32) (r : Vec F S1x1024 .f32) {Q : _ → sProp 𝕄} :
    iprop(Known m K ∗ Owes (F := F) c 6 ∗ fullSlot m c 1 (blkOf m c 3) ∗ rowAt c 0 fullShare r ∗ barTurn (F := F) c)
      ⊢ iprop((Owes (F := F) c 6 ∗ busySlot m c 1 5 ∗ rowAt c 0 fullShare (k0_pay6 (blkOf m c 3) r)
            ∗ semVal (barCell c) 0 ∗ barPay (F := F) c 0 ∗ barPay (F := F) c 1 ∗ barPay (F := F) c 2 -∗ Q ⟨⟩)
        -∗ Run c (k0_part5 aM h0 o h1 bM h2 pM h3 rM h4 cc0_scratch3 cc0_scratch4 cc0_scratch5 v2 barA) Q) := by
  simp only [k0_part5_eq_skeleton]; unfold k0_part5_skel
  simp only [semWaitWord, Prog.lift, Prog.bind_op, Prog.bind_ret, Prog.pure_eq_ret]
  iintro ⟨#HK, HO, H1, Hr, Hb⟩ Hk
  iapply (wp_load_block m c 1 _) $$ H1
  iintro H1
  iapply (wp_load_row c 0 fullShare _) $$ Hr
  iintro Hr
  iapply (wp_load_row c 0 fullShare _) $$ Hr
  iintro Hr
  ihave Hr := (rowAt_any c 0 _) $$ Hr
  iapply (wp_store_row c 0 _) $$ Hr
  iintro Hr
  ihave H1 := (fullSlot_free m c 1 _) $$ H1
  iapply (wp_start m c 1 5 rfl rfl rfl) $$ H1
  iintro H1
  iapply (wp_barrier m K c rfl (by decide)) $$ [HO Hb]
  · isplitr; · iexact HK
    isplitl [HO]; · iexact HO
    iexact Hb
  iintro ⟨HO, Hb⟩
  iapply (run_ret c)
  iapply Hk
  isplitl [HO]; · iexact HO
  isplitl [H1]; · iexact H1
  isplitl [Hr]; · iexact Hr
  iexact Hb

end Cert.ColSum

end
-- ==== Proof.PartsHi.lean ====
/-
# The body, part by part: the first row sent and the second half of the blocks
-/
module

public import proofs.«01_k».proof.Proof.Steps

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (K : Dev nD × Fin 13 → ℕ) (c : Dev nD)
variable (o : Memref sig .tc .vmem S1x1024 .f32)
variable {h0 : aM.IsWhole} {h1 : o.IsWhole} {h2 : bM.IsWhole} {h3 : pM.IsWhole} {h4 : rM.IsWhole}

/-- The sixth part: the first row of sums starts to the two nearer devices. -/
theorem part6 (v2 : BitVec 32) {Q : _ → sProp 𝕄} :
    iprop(Known m K ∗ Owes (F := F) c 6 ∗ (sendTok (F := F) c 0 ∗ sendPay m c 0 ∗ roomAt (F := F) (fwd 0 c) 0)
        ∗ (sendTok (F := F) c 1 ∗ sendPay m c 1 ∗ roomAt (F := F) (fwd 1 c) 1))
      ⊢ iprop((∀ v175, Owes (F := F) c 4 ∗ outCred (F := F) c 0 ∗ outCred (F := F) c 1 -∗ Q v175)
        -∗ Run c (k0_part6 aM h0 o h1 bM h2 pM h3 rM h4 cc0_scratch3 cc0_scratch4 cc0_scratch5 c v2) Q) := by
  simp only [k0_part6_eq_skeleton]; unfold k0_part6_skel
  simp only [semWaitWord, Prog.lift, Prog.bind_op, Prog.bind_ret, Prog.pure_eq_ret]
  iintro ⟨#HK, HO, ⟨Ht0, Hp0, Hm0⟩, Ht1, Hp1, Hm1⟩ Hk
  iapply (wp_send m K c 0 5 rfl (dev4_eq c) rfl rfl rfl rfl) $$ [HO Ht0 Hp0 Hm0]
  · isplitr; · iexact HK
    isplitl [HO]; · iexact HO
    isplitl [Ht0]; · iexact Ht0
    isplitl [Hp0]; · iexact Hp0
    iexact Hm0
  iintro ⟨HO, Hc0⟩
  iapply (wp_send m K c 1 4 rfl (dev5_eq c) rfl rfl rfl rfl) $$ [HO Ht1 Hp1 Hm1]
  · isplitr; · iexact HK
    isplitl [HO]; · iexact HO
    isplitl [Ht1]; · iexact Ht1
    isplitl [Hp1]; · iexact Hp1
    iexact Hm1
  iintro ⟨HO, Hc1⟩
  iapply (run_ret c)
  iapply Hk
  isplitl [HO]; · iexact HO
  isplitl [Hc0]; · iexact Hc0
  iexact Hc1

/-- The seventh part: it starts to the third; the second row of sums begins with block 4. -/
theorem part7 (v175 : BitVec 32) {Q : _ → sProp 𝕄} :
    iprop(Known m K ∗ Owes (F := F) c 4 ∗ (sendTok (F := F) c 2 ∗ sendPay m c 2 ∗ roomAt (F := F) (fwd 2 c) 2)
        ∗ busySlot m c 0 4 ∗ rowAny (F := F) c 1)
      ⊢ iprop((Owes (F := F) c 3 ∗ outCred (F := F) c 2 ∗ busySlot m c 0 6 ∗ rowAt c 1 fullShare (k0_pay7 (blkOf m c 4)) -∗ Q ⟨⟩)
        -∗ Run c (k0_part7 aM h0 o h1 bM h2 pM h3 rM h4 cc0_scratch3 cc0_scratch4 cc0_scratch5 c v175) Q) := by
  simp only [k0_part7_eq_skeleton]; unfold k0_part7_skel
  simp only [semWaitWord, Prog.lift, Prog.bind_op, Prog.bind_ret, Prog.pure_eq_ret]
  iintro ⟨#HK, HO, ⟨Ht2, Hp2, Hm2⟩, H0, Hr⟩ Hk
  iapply (wp_send m K c 2 3 rfl (dev6_eq c) rfl rfl rfl rfl) $$ [HO Ht2 Hp2 Hm2]
  · isplitr; · iexact HK
    isplitl [HO]; · iexact HO
    isplitl [Ht2]; · iexact Ht2
    isplitl [Hp2]; · iexact Hp2
    iexact Hm2
  iintro ⟨HO, Hc2⟩
  unfold Known
  icases HK with ⟨-, #Hlev⟩
  iapply (wp_arrive m c 0 4 rfl rfl 3 (by decide)) $$ [H0 HO]
  · isplitl [H0]; · iexact H0
    isplitl [HO]; · iexact HO
    iexact Hlev
  iintro ⟨H0, HO⟩
  iapply (wp_load_block m c 0 _) $$ H0
  iintro H0
  iapply (wp_load_any c 1) $$ Hr
  iintro %_ Hr
  iapply (wp_store_row c 1 _) $$ Hr
  iintro Hr
  ihave H0 := (fullSlot_free m c 0 _) $$ H0
  iapply (wp_start m c 0 6 rfl rfl rfl) $$ H0
  iintro H0
  iapply (run_ret c)
  iapply Hk
  isplitl [HO]; · iexact HO
  isplitl [Hc2]; · iexact Hc2
  isplitl [H0]; · iexact H0
  iexact Hr

/-- The eighth part: block 5 is added and block 6 arrives. -/
theorem part8 (r : Vec F S1x1024 .f32) {Q : _ → sProp 𝕄} :
    iprop(Known m K ∗ Owes (F := F) c 3 ∗ busySlot m c 0 6 ∗ busySlot m c 1 5 ∗ rowAt c 1 fullShare r)
      ⊢ iprop((Owes (F := F) c 3 ∗ fullSlot m c 0 (blkOf m c 6) ∗ busySlot m c 1 7 ∗ rowAt c 1 fullShare (k0_pay8 (blkOf m c 5) r)
            -∗ Q (k0_pay9 (blkOf m c 6) (k0_pay8 (blkOf m c 5) r)))
        -∗ Run c (k0_part8 aM h0 o h1 bM h2 pM h3 rM h4 cc0_scratch3 cc0_scratch4 cc0_scratch5) Q) := by
  simp only [k0_part8_eq_skeleton]; unfold k0_part8_skel
  simp only [semWaitWord, Prog.lift, Prog.bind_op, Prog.bind_ret, Prog.pure_eq_ret]
  unfold Known
  iintro ⟨⟨-, #Hlev⟩, HO, H0, H1, Hr⟩ Hk
  iapply (wp_arrive m c 1 5 rfl rfl 3 (by decide)) $$ [H1 HO]
  · isplitl [H1]; · iexact H1
    isplitl [HO]; · iexact HO
    iexact Hlev
  iintro ⟨H1, HO⟩
  iapply (wp_load_block m c 1 _) $$ H1
  iintro H1
  iapply (wp_load_row c 1 fullShare _) $$ Hr
  iintro Hr
  iapply (wp_load_row c 1 fullShare _) $$ Hr
  iintro Hr
  ihave Hr := (rowAt_any c 1 _) $$ Hr
  iapply (wp_store_row c 1 _) $$ Hr
  iintro Hr
  ihave H1 := (fullSlot_free m c 1 _) $$ H1
  iapply (wp_start m c 1 7 rfl rfl rfl) $$ H1
  iintro H1
  iapply (wp_arrive m c 0 6 rfl rfl 3 (by decide)) $$ [H0 HO]
  · isplitl [H0]; · iexact H0
    isplitl [HO]; · iexact HO
    iexact Hlev
  iintro ⟨H0, HO⟩
  iapply (wp_load_block m c 0 _) $$ H0
  iintro H0
  iapply (wp_load_row c 1 fullShare _) $$ Hr
  iintro Hr
  iapply (run_ret c)
  iapply Hk
  isplitl [HO]; · iexact HO
  isplitl [H0]; · iexact H0
  isplitl [H1]; · iexact H1
  iexact Hr

/-- The ninth part: block 6's sum is stored and block 7 is added, which completes the second row of sums. -/
theorem part9 (v2 : BitVec 32) (r : Vec F S1x1024 .f32) (v230 : FVec F S1x1024 .f32) {Q : _ → sProp 𝕄} :
    iprop(Known m K ∗ Owes (F := F) c 3 ∗ busySlot m c 1 7 ∗ rowAt c 1 fullShare r)
      ⊢ iprop((Owes (F := F) c 3 ∗ fullSlot m c 1 (blkOf m c 7) ∗ rowAt c 1 fullShare (k0_pay11 (blkOf m c 7) (k0_pay10 v230)) -∗ Q ⟨⟩)
        -∗ Run c (k0_part9 aM h0 o h1 bM h2 pM h3 rM h4 cc0_scratch3 cc0_scratch4 cc0_scratch5 v2 v230) Q) := by
  simp only [k0_part9_eq_skeleton]; unfold k0_part9_skel
  simp only [semWaitWord, Prog.lift, Prog.bind_op, Prog.bind_ret, Prog.pure_eq_ret]
  unfold Known
  iintro ⟨⟨-, #Hlev⟩, HO, H1, Hr⟩ Hk
  iapply (wp_load_row c 1 fullShare _) $$ Hr
  iintro Hr
  ihave Hr := (rowAt_any c 1 _) $$ Hr
  iapply (wp_store_row c 1 _) $$ Hr
  iintro Hr
  iapply (wp_arrive m c 1 7 rfl rfl 3 (by decide)) $$ [H1 HO]
  · isplitl [H1]; · iexact H1
    isplitl [HO]; · iexact HO
    iexact Hlev
  iintro ⟨H1, HO⟩
  iapply (wp_load_block m c 1 _) $$ H1
  iintro H1
  iapply (wp_load_row c 1 fullShare _) $$ Hr
  iintro Hr
  iapply (wp_load_row c 1 fullShare _) $$ Hr
  iintro Hr
  ihave Hr := (rowAt_any c 1 _) $$ Hr
  iapply (wp_store_row c 1 _) $$ Hr
  iintro Hr
  iapply (run_ret c)
  iapply Hk
  isplitl [HO]; · iexact HO
  isplitl [H1]; · iexact H1
  iexact Hr

end Cert.ColSum

end
-- ==== Proof.Split.lean ====
/-
# Buffers cut into their rows and slots

The landing buffer is its two slots, the buffer of sums its two rows and the receive buffer its six rows, cut by their
leading coordinate.
-/
module

public import proofs.«01_k».proof.Proof.Steps

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (c : Dev nD)

section Cut

variable {T : Type} [Fintype T] [DecidableEq T] {ℓ : Loc nD τ sig} (g : Idx ℓ → T) (P : T → Finset (Idx ℓ)) (hP : ∀ t i, i ∈ P t ↔ g i = t)
include hP

theorem cut_disjoint : ∀ t ∈ (Finset.univ : Finset T), ∀ t' ∈ (Finset.univ : Finset T), t ≠ t' → Disjoint (P t) (P t') :=
  fun t _ t' _ hne => Finset.disjoint_left.mpr fun i hi hi' => hne (((hP t i).mp hi).symm.trans ((hP t' i).mp hi'))
theorem cut_all : Finset.univ.biUnion P = Finset.univ :=
  Finset.eq_univ_iff_forall.mpr fun i => Finset.mem_biUnion.mpr ⟨g i, Finset.mem_univ _, (hP _ i).mpr rfl⟩

/-- A buffer cut by a function of the index is its parts. -/
theorem cut_eq (q : PosShare TreeShare) (f : Buf (Elt F) ℓ) :
    (ℓ ↦{q} f : sProp 𝕄) = bigSep Finset.univ fun t => ℓ ↦[P t]{q} f := by
  rw [← pointsTo_biUnion Finset.univ P (cut_disjoint g P hP), cut_all g P hP]

/-- Parts that hold anything make a buffer that holds something. -/
theorem cut_any (q : PosShare TreeShare) (f₀ : Buf (Elt F) ℓ) :
    bigSep Finset.univ (fun t => iprop(∃ f : Buf (Elt F) ℓ, ℓ ↦[P t]{q} f))
      ⊢ (iprop(∃ f : Buf (Elt F) ℓ, ℓ ↦{q} f) : sProp 𝕄) := by
  haveI : ∀ _ : T, Nonempty (Buf (Elt F) ℓ) := fun _ => ⟨f₀⟩
  have hc : ∀ f : T → Buf (Elt F) ℓ, (bigSep Finset.univ (fun t => ℓ ↦[P t]{q} f t) : sProp 𝕄)
      = bigSep Finset.univ fun t => ℓ ↦[P t]{q} (fun i => f (g i) i : Buf (Elt F) ℓ) := fun f =>
    bigSep_congr fun t _ => pointsTo_congr fun i hi => by rw [(hP t i).mp hi]
  iintro H
  ihave H := (bigSep_exists_pi (Finset.univ : Finset T) fun t (f : Buf (Elt F) ℓ) => (ℓ ↦[P t]{q} f : sProp 𝕄)) $$ H
  icases H with ⟨%f, H⟩
  iexists fun i => f (g i) i
  rw [cut_eq g P hP, ← hc f]
  iexact H

end Cut

/-- Row `k` of the receive buffer is the indices whose leading coordinate is `k`. -/
theorem mem_rrow (k : Fin 6) (i : S6x1024.Idx) : i ∈ (rrow k).view.set ↔ i 0 = k := by
  rw [show (rrow k).view.set = (rrect k).set from View.set_slice_whole cc0_scratch2 (rrect k), Rect.mem_set_unit]
  refine ⟨fun h => Fin.ext ?_, fun h a => ?_⟩
  · have h1 : k.val ≤ (i 0).val := (h 0).1
    have h2 : (i 0).val < k.val + 1 := (h 0).2
    show (i 0).val = k.val
    omega
  · match a with
    | ⟨0, _⟩ => subst h; exact ⟨Nat.le_refl _, Nat.lt_succ_self _⟩
    | ⟨1, _⟩ => exact ⟨Nat.zero_le _, lt_of_lt_of_eq (i 1).isLt (Nat.zero_add _).symm⟩

/-- Row `h` of the buffer of sums is the indices whose leading coordinate is `h`. -/
theorem mem_prow (h : Fin 2) (i : S2x1024.Idx) : i ∈ (prow h).view.set ↔ i 0 = h := by
  rw [show (prow h).view.set = (prect h).set from View.set_slice_whole cc0_scratch1 (prect h), Rect.mem_set_unit]
  refine ⟨fun hm => Fin.ext ?_, fun he a => ?_⟩
  · have h1 : h.val ≤ (i 0).val := (hm 0).1
    have h2 : (i 0).val < h.val + 1 := (hm 0).2
    show (i 0).val = h.val
    omega
  · match a with
    | ⟨0, _⟩ => subst he; exact ⟨Nat.le_refl _, Nat.lt_succ_self _⟩
    | ⟨1, _⟩ => exact ⟨Nat.zero_le _, lt_of_lt_of_eq (i 1).isLt (Nat.zero_add _).symm⟩

/-- Slot `s` of the landing buffer is the indices whose leading coordinate is `s`. -/
theorem mem_bslot (s : Fin 2) (i : S2x256x1024.Idx) : i ∈ (bslot s).view.set ↔ i 0 = s := by
  rw [show (bslot s).view.set = (brect s).set from (set_bslot s).trans (View.set_slice_whole cc0_scratch0 (brect s)), Rect.mem_set_unit]
  refine ⟨fun hm => Fin.ext ?_, fun he a => ?_⟩
  · have h1 : s.val ≤ (i 0).val := (hm 0).1
    have h2 : (i 0).val < s.val + 1 := (hm 0).2
    show (i 0).val = s.val
    omega
  · match a with
    | ⟨0, _⟩ => subst he; exact ⟨Nat.le_refl _, Nat.lt_succ_self _⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl
theorem two (Φ : Fin 2 → sProp 𝕄) : bigSep Finset.univ Φ = iprop(Φ 0 ∗ Φ 1) := by
  rw [bigSep_univ_eq_bigSepL [0, 1] (by decide) (by decide)]
  simp only [bigSepL_cons_cons, bigSepL_singleton]
  rfl

/-! ## At the start -/

/-- The landing buffer, holding anything, is its two slots. -/
theorem cut_slots (f : Buf (Elt F) ((c : Thread nD τ).loc cc0_scratch0)) :
    ((((c : Thread nD τ).loc cc0_scratch0) ↦{fullShare} f) : sProp 𝕄)
      = iprop((((c : Thread nD τ).loc cc0_scratch0) ↦[(bslot 0).view.set]{fullShare} f) ∗ (((c : Thread nD τ).loc cc0_scratch0) ↦[(bslot 1).view.set]{fullShare} f)) := by
  rw [cut_eq (T := Fin 2) (ℓ := (c : Thread nD τ).loc cc0_scratch0) (fun i => i 0) (fun s : Fin 2 => (bslot s).view.set) mem_bslot, two]
/-- The buffer of sums is its two rows. -/
theorem cut_sums (f : Buf (Elt F) ((c : Thread nD τ).loc cc0_scratch1)) :
    ((((c : Thread nD τ).loc cc0_scratch1) ↦{fullShare} f) : sProp 𝕄) ⊢ iprop(rowAny (F := F) c 0 ∗ rowAny (F := F) c 1) := by
  rw [cut_eq (T := Fin 2) (ℓ := (c : Thread nD τ).loc cc0_scratch1) (fun i => i 0) (fun h : Fin 2 => (prow h).view.set) mem_prow, two]
  unfold rowAny
  iintro ⟨H0, H1⟩
  isplitl [H0]; · iexists f; iexact H0
  iexists f; iexact H1
/-- The receive buffer is its six rows. -/
theorem cut_rooms (f : Buf (Elt F) ((c : Thread nD τ).loc cc0_scratch2)) :
    ((((c : Thread nD τ).loc cc0_scratch2) ↦{fullShare} f) : sProp 𝕄)
      ⊢ iprop(roomAt (F := F) c 0 ∗ roomAt (F := F) c 1 ∗ roomAt (F := F) c 2 ∗ roomAt (F := F) c 3 ∗ roomAt (F := F) c 4 ∗ roomAt (F := F) c 5) := by
  rw [cut_eq (T := Fin 6) (ℓ := (c : Thread nD τ).loc cc0_scratch2) (fun i => i 0) (fun k : Fin 6 => (rrow k).view.set) mem_rrow, ← six (fun k => roomAt (F := F) c k)]
  have hk : ∀ k : Fin 6, ((((c : Thread nD τ).loc cc0_scratch2) ↦[(rrow k).view.set]{fullShare} f) : sProp 𝕄) ⊢ roomAt (F := F) c k := fun k => by
    unfold roomAt
    iintro H; iexists f; iexact H
  exact bigSep_mono fun k _ => hk k
/-- The argument is a half share for either slot. -/
theorem cut_arg : ((((c : Thread nD τ).loc main_arg0) ↦{fullShare} argOf m c) : sProp 𝕄)
    ⊣⊢ iprop((((c : Thread nD τ).loc main_arg0) ↦[Finset.univ]{argShare 0} argOf m c) ∗ (((c : Thread nD τ).loc main_arg0) ↦[Finset.univ]{argShare 1} argOf m c)) :=
  pointsTo_share (PosShare.mem_left_op_right fullShare)

/-! ## At the end -/

/-- The receive buffer with all six rows in. -/
def allGot : sProp 𝕄 := (((c : Thread nD τ).loc cc0_scratch2) ↦{fullShare} gotOf m c)
theorem join_got : iprop(gotAt m c 0 ∗ gotAt m c 1 ∗ gotAt m c 2 ∗ gotAt m c 3 ∗ gotAt m c 4 ∗ gotAt m c 5) ⊢ allGot m c := by
  unfold allGot
  rw [cut_eq (T := Fin 6) (ℓ := (c : Thread nD τ).loc cc0_scratch2) (fun i => i 0) (fun k : Fin 6 => (rrow k).view.set) mem_rrow, six]
  exact BI.Entails.refl _
theorem join_sums (f₀ : Buf (Elt F) ((c : Thread nD τ).loc cc0_scratch1)) : iprop(rowAny (F := F) c 0 ∗ rowAny (F := F) c 1)
    ⊢ iprop(∃ f : Buf (Elt F) ((c : Thread nD τ).loc cc0_scratch1), (((c : Thread nD τ).loc cc0_scratch1) ↦{fullShare} f)) := by
  have hj := (cut_any (T := Fin 2) (ℓ := (c : Thread nD τ).loc cc0_scratch1) (fun i => i 0) (fun h : Fin 2 => (prow h).view.set) mem_prow fullShare f₀)
  rw [two] at hj
  exact hj
/-- Both slots idle again: the landing buffer, the whole argument, and both counters at zero. -/
theorem join_slots : iprop(freeSlot m c 0 ∗ freeSlot m c 1)
    ⊢ iprop((∃ f : Buf (Elt F) ((c : Thread nD τ).loc cc0_scratch0), (((c : Thread nD τ).loc cc0_scratch0) ↦{fullShare} f))
      ∗ (((c : Thread nD τ).loc main_arg0) ↦{fullShare} argOf m c)
      ∗ semVal ((c : Thread nD τ), .dma (copyS 0)) 0 ∗ semVal ((c : Thread nD τ), .dma (copyS 1)) 0) := by
  have hj := cut_any (T := Fin 2) (F := F) (ℓ := (c : Thread nD τ).loc cc0_scratch0) (fun i => i 0) (fun s : Fin 2 => (bslot s).view.set) mem_bslot fullShare (m ((c : Thread nD τ).loc cc0_scratch0))
  rw [two] at hj
  unfold freeSlot idle
  iintro ⟨⟨H0, Ha0, Hs0⟩, H1, Ha1, Hs1⟩
  isplitl [H0 H1]
  · iapply hj
    isplitl [H0]; · iexact H0
    iexact H1
  isplitl [Ha0 Ha1]
  · iapply (cut_arg m c).2
    isplitl [Ha0]; · iexact Ha0
    iexact Ha1
  isplitl [Hs0]; · iexact Hs0
  iexact Hs1
/-- Both slots as they are found. -/
theorem open_slots : iprop((∃ f : Buf (Elt F) ((c : Thread nD τ).loc cc0_scratch0), (((c : Thread nD τ).loc cc0_scratch0) ↦{fullShare} f))
      ∗ (((c : Thread nD τ).loc main_arg0) ↦{fullShare} argOf m c)
      ∗ semVal ((c : Thread nD τ), .dma (copyS 0)) 0 ∗ semVal ((c : Thread nD τ), .dma (copyS 1)) 0)
    ⊢ iprop(freeSlot m c 0 ∗ freeSlot m c 1) := by
  unfold freeSlot idle
  iintro ⟨⟨%f, H⟩, Ha, Hs0, Hs1⟩
  ihave H := (Entails.of_eq (cut_slots c f)) $$ H
  icases H with ⟨H0, H1⟩
  ihave Ha := (cut_arg m c).1 $$ Ha
  icases Ha with ⟨Ha0, Ha1⟩
  isplitl [H0 Ha0 Hs0]
  · isplitl [H0]; · iexists f; iexact H0
    isplitl [Ha0]; · iexact Ha0
    iexact Hs0
  isplitl [H1]; · iexists f; iexact H1
  isplitl [Ha1]; · iexact Ha1
  iexact Hs1

/-! ## Whole buffers loaded and stored -/

theorem zero_pair : (![0, 0] : Fin 2 → Nat) = fun _ => 0 := funext fun a => by fin_cases a <;> rfl

theorem read_six (f : cc0_scratch2.ty.Contents (Elt F)) :
    rM.view.readAt (Elt F) (Rect.unit (s := S6x1024) ![0, 0] S6x1024.size inb_S6x1024_S6x1024_0_0).toLoadRect f = f :=
  Memref.readAt_unit_zero (Elt F) cc0_scratch2 zero_pair _ f
theorem read_out (f : cc0_stg0_0.ty.Contents (Elt F)) :
    oM.view.readAt (Elt F) (Rect.unit (s := S1x1024) ![0, 0] S1x1024.size inb_S1x1024_S1x1024_0_0).toLoadRect f = f :=
  Memref.readAt_unit_zero (Elt F) cc0_stg0_0 zero_pair _ f
theorem write_out (f w : cc0_stg0_0.ty.Contents (Elt F)) :
    (oM.access (Rect.unit (s := S1x1024) ![0, 0] S1x1024.size inb_S1x1024_S1x1024_0_0)).write (Elt F) f w Finset.univ = w :=
  Memref.write_access_unit_zero_univ (Elt F) cc0_stg0_0 zero_pair _ f w

/-- Loading the six received rows. -/
theorem wp_load_got {hl : rM.view.LoadsAt (Rect.unit (s := S6x1024) ![0, 0] S6x1024.size inb_S6x1024_S6x1024_0_0).toLoadRect}
    {α : Type} {Q : α → sProp 𝕄} {k : Vec F S6x1024 .f32 → Prog (TpuEff nD τ sig (Elt F) Λ₀ .tc) α} :
    allGot m c ⊢ iprop((allGot m c -∗ Run c (k (gotOf m c)) Q)
      -∗ Run c (.op (.load rM (Rect.unit (s := S6x1024) ![0, 0] S6x1024.size inb_S6x1024_S6x1024_0_0).toLoadRect hl) k) Q) := by
  unfold allGot
  iintro H Hk
  iapply (wp_load 𝒱₀ (c : Thread nD τ) none Set.univ (m := rM) (Finset.subset_univ _)) $$ H
  iintro H
  rw [read_six]
  iapply Hk; iexact H

/-- The result's buffer, holding anything. -/
def outAny : sProp 𝕄 := iprop(∃ f : Buf (Elt F) ((c : Thread nD τ).loc cc0_stg0_0), (((c : Thread nD τ).loc cc0_stg0_0) ↦{fullShare} f))
/-- Loading the result's buffer. -/
theorem wp_load_out {hl : oM.view.LoadsAt (Rect.unit (s := S1x1024) ![0, 0] S1x1024.size inb_S1x1024_S1x1024_0_0).toLoadRect}
    {α : Type} {Q : α → sProp 𝕄} {k : Vec F S1x1024 .f32 → Prog (TpuEff nD τ sig (Elt F) Λ₀ .tc) α} :
    outAny (F := F) c ⊢ iprop((∀ v, outAny (F := F) c -∗ Run c (k v) Q)
      -∗ Run c (.op (.load oM (Rect.unit (s := S1x1024) ![0, 0] S1x1024.size inb_S1x1024_S1x1024_0_0).toLoadRect hl) k) Q) := by
  unfold outAny
  iintro ⟨%f, H⟩ Hk
  iapply (wp_load 𝒱₀ (c : Thread nD τ) none Set.univ (m := oM) (Finset.subset_univ _)) $$ H
  iintro H
  rw [read_out]
  iapply Hk $$ %f
  iexists f; iexact H
/-- Storing the result. -/
theorem wp_store_out (v : Vec F S1x1024 .f32)
    {hx : (oM.access (Rect.unit (s := S1x1024) ![0, 0] S1x1024.size inb_S1x1024_S1x1024_0_0)).Stores Finset.univ} {hm}
    {α : Type} {Q : α → sProp 𝕄} {k : PUnit → Prog (TpuEff nD τ sig (Elt F) Λ₀ .tc) α} :
    outAny (F := F) c ⊢ iprop(((((c : Thread nD τ).loc cc0_stg0_0) ↦{fullShare} v) -∗ Run c (k ⟨⟩) Q)
      -∗ Run c (.op (.store oM (Rect.unit (s := S1x1024) ![0, 0] S1x1024.size inb_S1x1024_S1x1024_0_0) v Finset.univ hx hm) k) Q) := by
  unfold outAny
  iintro ⟨%f, H⟩ Hk
  iapply (wp_store 𝒱₀ (c : Thread nD τ) none Set.univ (m := oM) (r := Rect.unit (s := S1x1024) ![0, 0] S1x1024.size inb_S1x1024_S1x1024_0_0)
    (Mk := Finset.univ) (Finset.subset_univ _)) $$ H
  iintro H
  rw [write_out]
  iapply Hk; iexact H

end Cert.ColSum

end
-- ==== Proof.PartsEnd.lean ====
/-
# The body, part by part: the second row sent, and the waits
-/
module

public import proofs.«01_k».proof.Proof.Split

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (K : Dev nD × Fin 13 → ℕ) (c : Dev nD)
variable (o : Memref sig .tc .vmem S1x1024 .f32)
variable {h0 : aM.IsWhole} {h1 : o.IsWhole} {h2 : bM.IsWhole} {h3 : pM.IsWhole} {h4 : rM.IsWhole}

/-- The tenth part: the second row of sums starts to the two nearer devices. -/
theorem part10 (v2 : BitVec 32) {Q : _ → sProp 𝕄} :
    iprop(Known m K ∗ Owes (F := F) c 3 ∗ (sendTok (F := F) c 3 ∗ sendPay m c 3 ∗ roomAt (F := F) (fwd 0 c) 3)
        ∗ (sendTok (F := F) c 4 ∗ sendPay m c 4 ∗ roomAt (F := F) (fwd 1 c) 4))
      ⊢ iprop((∀ v, Owes (F := F) c 1 ∗ outCred (F := F) c 3 ∗ outCred (F := F) c 4 -∗ Q v)
        -∗ Run c (k0_part10 aM h0 o h1 bM h2 pM h3 rM h4 cc0_scratch3 cc0_scratch4 cc0_scratch5 c v2) Q) := by
  simp only [k0_part10_eq_skeleton]; unfold k0_part10_skel
  simp only [semWaitWord, Prog.lift, Prog.bind_op, Prog.bind_ret, Prog.pure_eq_ret]
  iintro ⟨#HK, HO, ⟨Ht3, Hp3, Hm3⟩, Ht4, Hp4, Hm4⟩ Hk
  iapply (wp_send m K c 3 2 rfl (dev7_eq c) rfl rfl rfl rfl) $$ [HO Ht3 Hp3 Hm3]
  · isplitr; · iexact HK
    isplitl [HO]; · iexact HO
    isplitl [Ht3]; · iexact Ht3
    isplitl [Hp3]; · iexact Hp3
    iexact Hm3
  iintro ⟨HO, Hc3⟩
  iapply (wp_send m K c 4 1 rfl (dev8_eq c) rfl rfl rfl rfl) $$ [HO Ht4 Hp4 Hm4]
  · isplitr; · iexact HK
    isplitl [HO]; · iexact HO
    isplitl [Ht4]; · iexact Ht4
    isplitl [Hp4]; · iexact Hp4
    iexact Hm4
  iintro ⟨HO, Hc4⟩
  iapply (run_ret c)
  iapply Hk
  isplitl [HO]; · iexact HO
  isplitl [Hc3]; · iexact Hc3
  iexact Hc4

/-- The eleventh part: it starts to the third, and transfer 0 has left. -/
theorem part11 (v2 v288 v289 : BitVec 32) (v290 v293 : BitVec 1) {Q : _ → sProp 𝕄} :
    iprop(Known m K ∗ Owes (F := F) c 1 ∗ (sendTok (F := F) c 5 ∗ sendPay m c 5 ∗ roomAt (F := F) (fwd 2 c) 5)
        ∗ outTurn (F := F) c 0 ∗ outCred (F := F) c 0)
      ⊢ iprop((Owes (F := F) c 0 ∗ outCred (F := F) c 5 ∗ sendPay m c 0 ∗ semVal (sendCell c 0) 0 -∗ Q ⟨⟩)
        -∗ Run c (k0_part11 aM h0 o h1 bM h2 pM h3 rM h4 cc0_scratch3 cc0_scratch4 cc0_scratch5 c v2 v288 v289 v290 v293) Q) := by
  simp only [k0_part11_eq_skeleton]; unfold k0_part11_skel
  simp only [semWaitWord, Prog.lift, Prog.bind_op, Prog.bind_ret, Prog.pure_eq_ret]
  iintro ⟨#HK, HO, ⟨Ht5, Hp5, Hm5⟩, Hw0, Hc0⟩ Hk
  iapply (wp_send m K c 5 0 rfl (dev9_eq c) rfl rfl rfl rfl) $$ [HO Ht5 Hp5 Hm5]
  · isplitr; · iexact HK
    isplitl [HO]; · iexact HO
    isplitl [Ht5]; · iexact Ht5
    isplitl [Hp5]; · iexact Hp5
    iexact Hm5
  iintro ⟨HO, Hc5⟩
  iapply (wp_left m K c 0 rfl (credit_prow (half 0))) $$ [HO Hw0 Hc0]
  · isplitr; · iexact HK
    isplitl [HO]; · iexact HO
    isplitl [Hw0]; · iexact Hw0
    iexact Hc0
  iintro ⟨HO, Hp0, Hz0⟩
  iapply (run_ret c)
  iapply Hk
  isplitl [HO]; · iexact HO
  isplitl [Hc5]; · iexact Hc5
  isplitl [Hp0]; · iexact Hp0
  iexact Hz0

/-- The twelfth part: row 0 has arrived, transfer 1 has left, row 1 has arrived. -/
theorem part12 (v2 : BitVec 32) {Q : _ → sProp 𝕄} :
    iprop(Known m K ∗ Owes (F := F) c 0 ∗ innTurn (F := F) c 0 ∗ (outTurn (F := F) c 1 ∗ outCred (F := F) c 1) ∗ innTurn (F := F) c 1)
      ⊢ iprop((∀ v, Owes (F := F) c 0 ∗ (gotAt m c 0 ∗ semVal (recvCell c 0) 0) ∗ (sendPay m c 1 ∗ semVal (sendCell c 1) 0)
            ∗ (gotAt m c 1 ∗ semVal (recvCell c 1) 0) -∗ Q v)
        -∗ Run c (k0_part12 aM h0 o h1 bM h2 pM h3 rM h4 cc0_scratch3 cc0_scratch4 cc0_scratch5 v2) Q) := by
  simp only [k0_part12_eq_skeleton]; unfold k0_part12_skel
  simp only [semWaitWord, Prog.lift, Prog.bind_op, Prog.bind_ret, Prog.pure_eq_ret]
  iintro ⟨#HK, HO, Hi0, ⟨Hw1, Hc1⟩, Hi1⟩ Hk
  iapply (wp_got m K c 0 rfl (credit_rrow 0)) $$ [HO Hi0]
  · isplitr; · iexact HK
    isplitl [HO]; · iexact HO
    iexact Hi0
  iintro ⟨HO, Hg0, Hy0⟩
  iapply (wp_left m K c 1 rfl (credit_prow (half 1))) $$ [HO Hw1 Hc1]
  · isplitr; · iexact HK
    isplitl [HO]; · iexact HO
    isplitl [Hw1]; · iexact Hw1
    iexact Hc1
  iintro ⟨HO, Hp1, Hz1⟩
  iapply (wp_got m K c 1 rfl (credit_rrow 1)) $$ [HO Hi1]
  · isplitr; · iexact HK
    isplitl [HO]; · iexact HO
    iexact Hi1
  iintro ⟨HO, Hg1, Hy1⟩
  iapply (run_ret c)
  iapply Hk
  isplitl [HO]; · iexact HO
  isplitl [Hg0 Hy0]
  · isplitl [Hg0]; · iexact Hg0
    iexact Hy0
  isplitl [Hp1 Hz1]
  · isplitl [Hp1]; · iexact Hp1
    iexact Hz1
  isplitl [Hg1]; · iexact Hg1
  iexact Hy1

/-- The thirteenth part: transfer 2 has left, row 2 has arrived. -/
theorem part13 (v2 v349 v350 : BitVec 32) (v351 : BitVec 1) {Q : _ → sProp 𝕄} :
    iprop(Known m K ∗ Owes (F := F) c 0 ∗ (outTurn (F := F) c 2 ∗ outCred (F := F) c 2) ∗ innTurn (F := F) c 2)
      ⊢ iprop((∀ v, Owes (F := F) c 0 ∗ (sendPay m c 2 ∗ semVal (sendCell c 2) 0) ∗ (gotAt m c 2 ∗ semVal (recvCell c 2) 0) -∗ Q v)
        -∗ Run c (k0_part13 aM h0 o h1 bM h2 pM h3 rM h4 cc0_scratch3 cc0_scratch4 cc0_scratch5 v2 v349 v350 v351) Q) := by
  simp only [k0_part13_eq_skeleton]; unfold k0_part13_skel
  simp only [semWaitWord, Prog.lift, Prog.bind_op, Prog.bind_ret, Prog.pure_eq_ret]
  iintro ⟨#HK, HO, ⟨Hw2, Hc2⟩, Hi2⟩ Hk
  iapply (wp_left m K c 2 rfl (credit_prow (half 2))) $$ [HO Hw2 Hc2]
  · isplitr; · iexact HK
    isplitl [HO]; · iexact HO
    isplitl [Hw2]; · iexact Hw2
    iexact Hc2
  iintro ⟨HO, Hp2, Hz2⟩
  iapply (wp_got m K c 2 rfl (credit_rrow 2)) $$ [HO Hi2]
  · isplitr; · iexact HK
    isplitl [HO]; · iexact HO
    iexact Hi2
  iintro ⟨HO, Hg2, Hy2⟩
  iapply (run_ret c)
  iapply Hk
  isplitl [HO]; · iexact HO
  isplitl [Hp2 Hz2]
  · isplitl [Hp2]; · iexact Hp2
    iexact Hz2
  isplitl [Hg2]; · iexact Hg2
  iexact Hy2

/-- The fourteenth part: transfer 3 has left, row 3 has arrived, transfer 4 has left. -/
theorem part14 (v2 v378 : BitVec 32) {Q : _ → sProp 𝕄} :
    iprop(Known m K ∗ Owes (F := F) c 0 ∗ (outTurn (F := F) c 3 ∗ outCred (F := F) c 3) ∗ innTurn (F := F) c 3
        ∗ (outTurn (F := F) c 4 ∗ outCred (F := F) c 4))
      ⊢ iprop((Owes (F := F) c 0 ∗ (sendPay m c 3 ∗ semVal (sendCell c 3) 0) ∗ (gotAt m c 3 ∗ semVal (recvCell c 3) 0)
            ∗ (sendPay m c 4 ∗ semVal (sendCell c 4) 0) -∗ Q ⟨⟩)
        -∗ Run c (k0_part14 aM h0 o h1 bM h2 pM h3 rM h4 cc0_scratch3 cc0_scratch4 cc0_scratch5 v2 v378) Q) := by
  simp only [k0_part14_eq_skeleton]; unfold k0_part14_skel
  simp only [semWaitWord, Prog.lift, Prog.bind_op, Prog.bind_ret, Prog.pure_eq_ret]
  iintro ⟨#HK, HO, ⟨Hw3, Hc3⟩, Hi3, Hw4, Hc4⟩ Hk
  iapply (wp_left m K c 3 rfl (credit_prow (half 3))) $$ [HO Hw3 Hc3]
  · isplitr; · iexact HK
    isplitl [HO]; · iexact HO
    isplitl [Hw3]; · iexact Hw3
    iexact Hc3
  iintro ⟨HO, Hp3, Hz3⟩
  iapply (wp_got m K c 3 rfl (credit_rrow 3)) $$ [HO Hi3]
  · isplitr; · iexact HK
    isplitl [HO]; · iexact HO
    iexact Hi3
  iintro ⟨HO, Hg3, Hy3⟩
  iapply (wp_left m K c 4 rfl (credit_prow (half 4))) $$ [HO Hw4 Hc4]
  · isplitr; · iexact HK
    isplitl [HO]; · iexact HO
    isplitl [Hw4]; · iexact Hw4
    iexact Hc4
  iintro ⟨HO, Hp4, Hz4⟩
  iapply (run_ret c)
  iapply Hk
  isplitl [HO]; · iexact HO
  isplitl [Hp3 Hz3]
  · isplitl [Hp3]; · iexact Hp3
    iexact Hz3
  isplitl [Hg3 Hy3]
  · isplitl [Hg3]; · iexact Hg3
    iexact Hy3
  isplitl [Hp4]; · iexact Hp4
  iexact Hz4

/-- The last transfer borrows the third share of the second row. -/
theorem sendPay_last : sendPay m c 5 = rowAt c 1 (third 2) (sumHi m c) := rfl

/-- The fifteenth part: row 4 has arrived, transfer 5 has left, row 5 has arrived, and everything is loaded. -/
theorem part15 (v2 : BitVec 32) {Q : _ → sProp 𝕄} :
    iprop(Known m K ∗ Owes (F := F) c 0 ∗ innTurn (F := F) c 4 ∗ (outTurn (F := F) c 5 ∗ outCred (F := F) c 5) ∗ innTurn (F := F) c 5
        ∗ rowAt c 0 fullShare (sumLo m c) ∗ gotAt m c 0 ∗ gotAt m c 1 ∗ gotAt m c 2 ∗ gotAt m c 3)
      ⊢ iprop((Owes (F := F) c 0 ∗ semVal (recvCell c 4) 0 ∗ (sendPay m c 5 ∗ semVal (sendCell c 5) 0) ∗ semVal (recvCell c 5) 0
            ∗ rowAt c 0 fullShare (sumLo m c) ∗ allGot m c -∗ Q ⟨k0_pay12 (sumLo m c) (sumHi m c), gotOf m c⟩)
        -∗ Run c (k0_part15 aM h0 o h1 bM h2 pM h3 rM h4 cc0_scratch3 cc0_scratch4 cc0_scratch5 v2) Q) := by
  simp only [k0_part15_eq_skeleton]; unfold k0_part15_skel
  simp only [semWaitWord, Prog.lift, Prog.bind_op, Prog.bind_ret, Prog.pure_eq_ret]
  iintro ⟨#HK, HO, Hi4, ⟨Hw5, Hc5⟩, Hi5, Hr, Hg0, Hg1, Hg2, Hg3⟩ Hk
  iapply (wp_got m K c 4 rfl (credit_rrow 4)) $$ [HO Hi4]
  · isplitr; · iexact HK
    isplitl [HO]; · iexact HO
    iexact Hi4
  iintro ⟨HO, Hg4, Hy4⟩
  iapply (wp_left m K c 5 rfl (credit_prow (half 5))) $$ [HO Hw5 Hc5]
  · isplitr; · iexact HK
    isplitl [HO]; · iexact HO
    isplitl [Hw5]; · iexact Hw5
    iexact Hc5
  iintro ⟨HO, Hp5, Hz5⟩
  iapply (wp_got m K c 5 rfl (credit_rrow 5)) $$ [HO Hi5]
  · isplitr; · iexact HK
    isplitl [HO]; · iexact HO
    iexact Hi5
  iintro ⟨HO, Hg5, Hy5⟩
  iapply (wp_load_row c 0 fullShare _) $$ Hr
  iintro Hr
  ihave Hp5 := (Entails.of_eq (sendPay_last m c)) $$ Hp5
  iapply (wp_load_row c 1 (third 2) _) $$ Hp5
  iintro Hp5
  ihave Hg := (join_got m c) $$ [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4]; · iexact Hg4
    iexact Hg5
  iapply (wp_load_got m c) $$ Hg
  iintro Hg
  iapply (run_ret c)
  iapply Hk
  isplitl [HO]; · iexact HO
  isplitl [Hy4]; · iexact Hy4
  isplitl [Hp5 Hz5]
  · isplitl [Hp5]; · iapply (Entails.of_eq (sendPay_last m c).symm); iexact Hp5
    iexact Hz5
  isplitl [Hy5]; · iexact Hy5
  isplitl [Hr]; · iexact Hr
  iexact Hg

end Cert.ColSum

end
-- ==== Proof.Body.lean ====
/-
# The body, whole

The parts run one after the other: what the body of a device takes, and what it leaves.
-/
module

public import proofs.«01_k».proof.Proof.PartsLo
public import proofs.«01_k».proof.Proof.PartsHi
public import proofs.«01_k».proof.Proof.PartsEnd

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (K : Dev nD × Fin 13 → ℕ) (c : Dev nD)

/-- What a device holds of transfer `k`: the right to start it, and to wait for it to leave and for its own row to arrive. -/
def xfer (k : Fin 6) : sProp 𝕄 := iprop(sendTok (F := F) c k ∗ outTurn (F := F) c k ∗ innTurn (F := F) c k)
/-- Both semaphores of transfer `k` at zero. -/
def quiet (k : Fin 6) : sProp 𝕄 := iprop(semVal (sendCell c k) 0 ∗ semVal (recvCell c k) 0)

/-- The first row's three shares, and the second's. -/
theorem lo_shares : rowAt c 0 fullShare (sumLo m c) ⊣⊢ iprop(sendPay m c 0 ∗ sendPay m c 1 ∗ sendPay m c 2) := row_shares c 0 (sumLo m c)
theorem hi_shares : rowAt c 1 fullShare (sumHi m c) ⊣⊢ iprop(sendPay m c 3 ∗ sendPay m c 4 ∗ sendPay m c 5) := row_shares c 1 (sumHi m c)
/-- The first row, as the four additions leave it, cut into its shares; and the second. -/
theorem lo_cut : rowAt c 0 fullShare (k0_pay6 (blkOf m c 3) (k0_pay5 (blkOf m c 2) (k0_pay4 (blkOf m c 1) (k0_pay3 (k0_pay2 (blkOf m c 0))))))
    ⊢ iprop(sendPay m c 0 ∗ sendPay m c 1 ∗ sendPay m c 2) := (lo_shares m c).1
theorem hi_cut : rowAt c 1 fullShare (k0_pay11 (blkOf m c 7) (k0_pay10 (k0_pay9 (blkOf m c 6) (k0_pay8 (blkOf m c 5) (k0_pay7 (blkOf m c 4))))))
    ⊢ iprop(sendPay m c 3 ∗ sendPay m c 4 ∗ sendPay m c 5) := (hi_shares m c).1
/-- The rows that the barrier hands over, by the transfer that fills them. -/
theorem bar_rooms : iprop(barPay (F := F) c 0 ∗ barPay (F := F) c 1 ∗ barPay (F := F) c 2)
    ⊢ iprop((roomAt (F := F) (fwd 0 c) 0 ∗ roomAt (F := F) (fwd 0 c) 3) ∗ (roomAt (F := F) (fwd 1 c) 1 ∗ roomAt (F := F) (fwd 1 c) 4)
      ∗ (roomAt (F := F) (fwd 2 c) 2 ∗ roomAt (F := F) (fwd 2 c) 5)) := BI.Entails.refl _

set_option maxHeartbeats 1000000 in
/-- The body on device `c`. -/
theorem body_run {h0 : aM.IsWhole} {h1 : oM.IsWhole} {h2 : bM.IsWhole} {h3 : pM.IsWhole} {h4 : rM.IsWhole} {Q : PUnit → sProp 𝕄} :
    iprop(Known m K ∗ (sigTok (F := F) c 0 ∗ sigTok (F := F) c 1 ∗ sigTok (F := F) c 2)
        ∗ (xfer (F := F) c 0 ∗ xfer (F := F) c 1 ∗ xfer (F := F) c 2 ∗ xfer (F := F) c 3 ∗ xfer (F := F) c 4 ∗ xfer (F := F) c 5)
        ∗ barTurn (F := F) c ∗ (freeSlot m c 0 ∗ freeSlot m c 1) ∗ (rowAny (F := F) c 0 ∗ rowAny (F := F) c 1)
        ∗ (roomAt (F := F) c 0 ∗ roomAt (F := F) c 1 ∗ roomAt (F := F) c 2 ∗ roomAt (F := F) c 3 ∗ roomAt (F := F) c 4 ∗ roomAt (F := F) c 5)
        ∗ Owes (F := F) c 9 ∗ outAny (F := F) c)
      ⊢ iprop((Owes (F := F) c 0 ∗ (freeSlot m c 0 ∗ freeSlot m c 1) ∗ (rowAny (F := F) c 0 ∗ rowAny (F := F) c 1) ∗ allGot m c
            ∗ semVal (barCell c) 0
            ∗ (quiet (F := F) c 0 ∗ quiet (F := F) c 1 ∗ quiet (F := F) c 2 ∗ quiet (F := F) c 3 ∗ quiet (F := F) c 4 ∗ quiet (F := F) c 5)
            ∗ (((c : Thread nD τ).loc cc0_stg0_0) ↦{fullShare} resOf m c) -∗ Q ⟨⟩)
        -∗ Run c (cc0_body aM h0 oM h1 bM h2 pM h3 rM h4 cc0_scratch3 cc0_scratch4 cc0_scratch5) Q) := by
  simp only [cc0_body_eq_skeleton]; unfold cc0_body_skel
  unfold xfer quiet
  iintro ⟨#HK, ⟨Hs0, Hs1, Hs2⟩, ⟨⟨Ht0, Hw0, Hi0⟩, ⟨Ht1, Hw1, Hi1⟩, ⟨Ht2, Hw2, Hi2⟩, ⟨Ht3, Hw3, Hi3⟩, ⟨Ht4, Hw4, Hi4⟩, ⟨Ht5, Hw5, Hi5⟩⟩, Hbar, ⟨H0, H1⟩, ⟨Hr0, Hr1⟩,
    ⟨Hm0, Hm1, Hm2, Hm3, Hm4, Hm5⟩, HO, Hout⟩ Hk
  simp only [run_bind]
  iapply (part1 m K c oM) $$ [HO Hs0 Hm2 Hm5 Hs1 Hm1 Hm4]
  · isplitr; · iexact HK
    isplitl [HO]; · iexact HO
    isplitl [Hs0 Hm2 Hm5]
    · isplitl [Hs0]; · iexact Hs0
      isplitl [Hm2]; · iexact Hm2
      iexact Hm5
    isplitl [Hs1]; · iexact Hs1
    isplitl [Hm1]; · iexact Hm1
    iexact Hm4
  iintro %v2 %v30 %w %v31 HO
  iapply (part2 m K c oM v2 v30 w v31) $$ [HO Hs2 Hm0 Hm3 H0 H1]
  · isplitr; · iexact HK
    isplitl [HO]; · iexact HO
    isplitl [Hs2 Hm0 Hm3]
    · isplitl [Hs2]; · iexact Hs2
      isplitl [Hm0]; · iexact Hm0
      iexact Hm3
    isplitl [H0]; · iexact H0
    iexact H1
  iintro ⟨HO, H0, H1⟩
  iapply (part3 m K c oM _ _) $$ [HO H0 H1 Hr0]
  · isplitr; · iexact HK
    isplitl [HO]; · iexact HO
    isplitl [H0]; · iexact H0
    isplitl [H1]; · iexact H1
    iexact Hr0
  iintro ⟨HO, H0, H1, Hr0⟩
  iapply (part4 m K c oM _ _) $$ [HO H0 H1 Hr0]
  · isplitr; · iexact HK
    isplitl [HO]; · iexact HO
    isplitl [H0]; · iexact H0
    isplitl [H1]; · iexact H1
    iexact Hr0
  iintro ⟨HO, H0, H1, Hr0⟩
  iapply (part5 m K c oM v2 _) $$ [HO H1 Hr0 Hbar]
  · isplitr; · iexact HK
    isplitl [HO]; · iexact HO
    isplitl [H1]; · iexact H1
    isplitl [Hr0]; · iexact Hr0
    iexact Hbar
  iintro ⟨HO, H1, Hr0, Hz, Hbp⟩
  ihave Hbp := (bar_rooms c) $$ Hbp
  icases Hbp with ⟨⟨Hm0, Hm3⟩, ⟨Hm1, Hm4⟩, Hm2, Hm5⟩
  ihave Hr0 := (lo_cut m c) $$ Hr0
  icases Hr0 with ⟨Hp0, Hp1, Hp2⟩
  iapply (part6 m K c oM v2) $$ [HO Ht0 Hp0 Hm0 Ht1 Hp1 Hm1]
  · isplitr; · iexact HK
    isplitl [HO]; · iexact HO
    isplitl [Ht0 Hp0 Hm0]
    · isplitl [Ht0]; · iexact Ht0
      isplitl [Hp0]; · iexact Hp0
      iexact Hm0
    isplitl [Ht1]; · iexact Ht1
    isplitl [Hp1]; · iexact Hp1
    iexact Hm1
  iintro %v175 ⟨HO, Hc0, Hc1⟩
  iapply (part7 m K c oM v175) $$ [HO Ht2 Hp2 Hm2 H0 Hr1]
  · isplitr; · iexact HK
    isplitl [HO]; · iexact HO
    isplitl [Ht2 Hp2 Hm2]
    · isplitl [Ht2]; · iexact Ht2
      isplitl [Hp2]; · iexact Hp2
      iexact Hm2
    isplitl [H0]; · iexact H0
    iexact Hr1
  iintro ⟨HO, Hc2, H0, Hr1⟩
  iapply (part8 m K c oM _) $$ [HO H0 H1 Hr1]
  · isplitr; · iexact HK
    isplitl [HO]; · iexact HO
    isplitl [H0]; · iexact H0
    isplitl [H1]; · iexact H1
    iexact Hr1
  iintro ⟨HO, H0, H1, Hr1⟩
  iapply (part9 m K c oM v2 _ _) $$ [HO H1 Hr1]
  · isplitr; · iexact HK
    isplitl [HO]; · iexact HO
    isplitl [H1]; · iexact H1
    iexact Hr1
  iintro ⟨HO, H1, Hr1⟩
  ihave Hr1 := (hi_cut m c) $$ Hr1
  icases Hr1 with ⟨Hp3, Hp4, Hp5⟩
  iapply (part10 m K c oM v2) $$ [HO Ht3 Hp3 Hm3 Ht4 Hp4 Hm4]
  · isplitr; · iexact HK
    isplitl [HO]; · iexact HO
    isplitl [Ht3 Hp3 Hm3]
    · isplitl [Ht3]; · iexact Ht3
      isplitl [Hp3]; · iexact Hp3
      iexact Hm3
    isplitl [Ht4]; · iexact Ht4
    isplitl [Hp4]; · iexact Hp4
    iexact Hm4
  iintro %v10 ⟨HO, Hc3, Hc4⟩
  obtain ⟨v288, v289, v290, v293⟩ := v10
  iapply (part11 m K c oM v2 v288 v289 v290 v293) $$ [HO Ht5 Hp5 Hm5 Hw0 Hc0]
  · isplitr; · iexact HK
    isplitl [HO]; · iexact HO
    isplitl [Ht5 Hp5 Hm5]
    · isplitl [Ht5]; · iexact Ht5
      isplitl [Hp5]; · iexact Hp5
      iexact Hm5
    isplitl [Hw0]; · iexact Hw0
    iexact Hc0
  iintro ⟨HO, Hc5, Hp0, Hz0⟩
  iapply (part12 m K c oM v2) $$ [HO Hi0 Hw1 Hc1 Hi1]
  · isplitr; · iexact HK
    isplitl [HO]; · iexact HO
    isplitl [Hi0]; · iexact Hi0
    isplitl [Hw1 Hc1]
    · isplitl [Hw1]; · iexact Hw1
      iexact Hc1
    iexact Hi1
  iintro %v12 ⟨HO, ⟨Hg0, Hy0⟩, ⟨Hp1, Hz1⟩, Hg1, Hy1⟩
  obtain ⟨v349, v350, v351⟩ := v12
  iapply (part13 m K c oM v2 v349 v350 v351) $$ [HO Hw2 Hc2 Hi2]
  · isplitr; · iexact HK
    isplitl [HO]; · iexact HO
    isplitl [Hw2 Hc2]
    · isplitl [Hw2]; · iexact Hw2
      iexact Hc2
    iexact Hi2
  iintro %v378 ⟨HO, ⟨Hp2, Hz2⟩, Hg2, Hy2⟩
  iapply (part14 m K c oM v2 v378) $$ [HO Hw3 Hc3 Hi3 Hw4 Hc4]
  · isplitr; · iexact HK
    isplitl [HO]; · iexact HO
    isplitl [Hw3 Hc3]
    · isplitl [Hw3]; · iexact Hw3
      iexact Hc3
    isplitl [Hi3]; · iexact Hi3
    isplitl [Hw4]; · iexact Hw4
    iexact Hc4
  iintro ⟨HO, ⟨Hp3, Hz3⟩, ⟨Hg3, Hy3⟩, Hp4, Hz4⟩
  ihave Hr0 := (lo_shares m c).2 $$ [Hp0 Hp1 Hp2]
  · isplitl [Hp0]; · iexact Hp0
    isplitl [Hp1]; · iexact Hp1
    iexact Hp2
  iapply (part15 m K c oM v2) $$ [HO Hi4 Hw5 Hc5 Hi5 Hr0 Hg0 Hg1 Hg2 Hg3]
  · isplitr; · iexact HK
    isplitl [HO]; · iexact HO
    isplitl [Hi4]; · iexact Hi4
    isplitl [Hw5 Hc5]
    · isplitl [Hw5]; · iexact Hw5
      iexact Hc5
    isplitl [Hi5]; · iexact Hi5
    isplitl [Hr0]; · iexact Hr0
    isplitl [Hg0]; · iexact Hg0
    isplitl [Hg1]; · iexact Hg1
    isplitl [Hg2]; · iexact Hg2
    iexact Hg3
  iintro ⟨HO, Hy4, ⟨Hp5, Hz5⟩, Hy5, Hr0, Hg⟩
  ihave Hr1 := (hi_shares m c).2 $$ [Hp3 Hp4 Hp5]
  · isplitl [Hp3]; · iexact Hp3
    isplitl [Hp4]; · iexact Hp4
    iexact Hp5
  simp only [Prog.lift, Prog.bind_op, Prog.bind_ret, Prog.pure_eq_ret]
  iapply (wp_load_out c) $$ Hout
  iintro %_ Hout
  iapply (run_ret c)
  iapply (wp_store_out c _) $$ Hout
  iintro Hout
  iapply (run_ret c)
  iapply (run_ret c)
  iapply Hk
  isplitl [HO]; · iexact HO
  isplitl [H0 H1]
  · isplitl [H0]
    · iapply (fullSlot_free m c 0 _); iexact H0
    iapply (fullSlot_free m c 1 _); iexact H1
  isplitl [Hr0 Hr1]
  · isplitl [Hr0]
    · iapply (rowAt_any c 0 _); iexact Hr0
    iapply (rowAt_any c 1 _); iexact Hr1
  isplitl [Hg]; · iexact Hg
  isplitl [Hz]; · iexact Hz
  isplitr [Hout]
  · isplitl [Hz0 Hy0]
    · isplitl [Hz0]; · iexact Hz0
      iexact Hy0
    isplitl [Hz1 Hy1]
    · isplitl [Hz1]; · iexact Hz1
      iexact Hy1
    isplitl [Hz2 Hy2]
    · isplitl [Hz2]; · iexact Hz2
      iexact Hy2
    isplitl [Hz3 Hy3]
    · isplitl [Hz3]; · iexact Hz3
      iexact Hy3
    isplitl [Hz4 Hy4]
    · isplitl [Hz4]; · iexact Hz4
      iexact Hy4
    isplitl [Hz5]; · iexact Hz5
    iexact Hy5
  iexact Hout

end Cert.ColSum

end
-- ==== Proof.Region.lean ====
/-
# The region's obligation

The grid has one point and one window, the result's. What a device holds when its body starts, what it holds when the
body is done, and the proof that the body takes the one to the other.
-/
module

public import proofs.«01_k».proof.Proof.Body

@[expose] public section

noncomputable section

namespace Cert.ColSum

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (ρ : Dev nD → PrngReg) (c : Dev nD)

/-- The launch's memory: every counter at zero. -/
def s₀ : MemSt nD τ sig (Elt F) := ⟨m, fun _ => 0, ρ⟩

/-- The three rights to signal, and the six transfers. -/
def sigToks : sProp 𝕄 := iprop(sigTok (F := F) c 0 ∗ sigTok (F := F) c 1 ∗ sigTok (F := F) c 2)
def xfers : sProp 𝕄 :=
  iprop(xfer (F := F) c 0 ∗ xfer (F := F) c 1 ∗ xfer (F := F) c 2 ∗ xfer (F := F) c 3 ∗ xfer (F := F) c 4 ∗ xfer (F := F) c 5)
/-- The transfers' semaphores, all at zero. -/
def quiets : sProp 𝕄 :=
  iprop(quiet (F := F) c 0 ∗ quiet (F := F) c 1 ∗ quiet (F := F) c 2 ∗ quiet (F := F) c 3 ∗ quiet (F := F) c 4 ∗ quiet (F := F) c 5)
/-- The argument, untouched, and the local copies' semaphores at zero. -/
def kept : sProp 𝕄 :=
  iprop((((c : Thread nD τ).loc main_arg0) ↦{fullShare} argOf m c)
    ∗ semVal ((c : Thread nD τ), .dma (copyS 0)) 0 ∗ semVal ((c : Thread nD τ), .dma (copyS 1)) 0)
/-- A scratch buffer holding anything. -/
def someBuf (b : Ref sig .tc) : sProp 𝕄 := iprop(∃ f : Buf (Elt F) ((c : Thread nD τ).loc b), (((c : Thread nD τ).loc b) ↦{fullShare} f))
def scratches : sProp 𝕄 := iprop(someBuf (F := F) c cc0_scratch0 ∗ someBuf (F := F) c cc0_scratch1 ∗ someBuf (F := F) c cc0_scratch2)

/-- What device `c` starts from, its scratch aside. -/
def start : sProp 𝕄 := iprop((∃ K, Known m K) ∗ sigToks (F := F) c ∗ xfers (F := F) c ∗ barTurn (F := F) c ∗ kept m c)
def before : sProp 𝕄 := iprop(start m c ∗ scratches (F := F) c)
/-- What it ends with. -/
def after : sProp 𝕄 := iprop(scratches (F := F) c ∗ kept m c ∗ semVal (barCell c) 0 ∗ quiets (F := F) c)

/-- The region's proof data: the result's staging buffer ends holding the result. -/
def dats (_ : Fin 1) (c : Dev nD) : Dat τ (Elt F) Unit ℕ UA ℕ cfg0 c where
  A w := (s₀ m ρ).mem ((cfg0.win w).arr.view.loc (c : Thread nD τ))
  after w _ := match w with
    | ⟨0, _⟩ => resOf m c
  Φ t := match t with
    | ⟨0, _⟩ => before m c
    | ⟨_ + 1, _⟩ => after m c
  q _ := fullShare
  owed t := match t with
    | ⟨0, _⟩ => owed c 9
    | ⟨_ + 1, _⟩ => 0

/-- A whole buffer read through its whole view. -/
theorem owns_whole (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` of device `c`, whole, holding `X`. -/
def holds (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The body's precondition and postcondition as the region states them. -/
def bodyPre : sProp 𝕄 :=
  iprop(before m c ∗ (dats m ρ 0 c).owesAt () t0_0.castSucc ∗ (∃ d, holds (F := F) c cc0_stg0_0 ((dats m ρ 0 c).before (0 : Fin 1) t0_0 d)))
def bodyPost : sProp 𝕄 := iprop(after m c ∗ (dats m ρ 0 c).owesAt () t0_0.succ ∗ holds (F := F) c cc0_stg0_0 (resOf m c))

/-- The body takes the one to the other. -/
theorem body_spec : bodyPre m ρ c ⊢ Run c (cc0_body aM (Memref.isWhole_whole _) oM (Memref.isWhole_whole _) bM (Memref.isWhole_whole _) pM (Memref.isWhole_whole _) rM (Memref.isWhole_whole _)
    cc0_scratch3 cc0_scratch4 cc0_scratch5) (fun _ => bodyPost m ρ c) := by
  unfold bodyPre before start scratches kept
  iintro ⟨⟨⟨⟨%K, #HK⟩, Hs, Hx, Hb, Ha⟩, H0, H1, H2⟩, HO, Hout⟩
  unfold Dat.owesAt Pipeline.owesWithin
  icases HO with ⟨%W, -, HO⟩
  icases Hout with ⟨%d, Hout⟩
  unfold holds
  icases Hout with ⟨%fo, -, Hout⟩
  ihave Hfree := (open_slots m c) $$ [H0 Ha]
  · unfold someBuf
    isplitl [H0]; · iexact H0
    iexact Ha
  unfold someBuf
  icases H1 with ⟨%f1, H1⟩
  icases H2 with ⟨%f2, H2⟩
  ihave Hsum := (cut_sums c f1) $$ H1
  ihave Hroom := (cut_rooms c f2) $$ H2
  iapply (body_run m K c) $$ [Hs Hx Hb Hfree Hsum Hroom HO Hout]
  · isplitr; · iexact HK
    unfold sigToks xfers
    isplitl [Hs]; · iexact Hs
    isplitl [Hx]; · iexact Hx
    isplitl [Hb]; · iexact Hb
    isplitl [Hfree]; · iexact Hfree
    isplitl [Hsum]; · iexact Hsum
    isplitl [Hroom]; · iexact Hroom
    isplitl [HO]; · unfold Owes; iexists W; iexact HO
    unfold outAny; iexists fo; iexact Hout
  iintro ⟨HO, Hfree, Hsum, Hgot, Hz, Hq, Hout⟩
  unfold bodyPost after scratches someBuf kept quiets holds
  ihave Hfree := (join_slots m c) $$ Hfree
  icases Hfree with ⟨H0, Ha⟩
  ihave H1 := (join_sums c f1) $$ Hsum
  isplitl [H0 H1 Hgot Ha Hz Hq]
  · isplitl [H0 H1 Hgot]
    · isplitl [H0]; · iexact H0
      isplitl [H1]; · iexact H1
      unfold allGot; iexists _; iexact Hgot
    isplitl [Ha]; · iexact Ha
    isplitl [Hz]; · iexact Hz
    iexact Hq
  isplitl [HO]
  · unfold Owes Dat.owesAt Pipeline.owesWithin
    icases HO with ⟨%W', HO⟩
    iexists W'
    isplitr; · ipureintro; exact fun _ _ => Or.inl trivial
    iexact HO
  iexists _
  isplitr; · (ipureintro; rfl)
  iexact Hout

/-- The region's obligation on device `c`. -/
theorem body_obligation : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ
    (cc0_body aM (Memref.isWhole_whole _) oM (Memref.isWhole_whole _) bM (Memref.isWhole_whole _) pM (Memref.isWhole_whole _) rM (Memref.isWhole_whole _)
      cc0_scratch3 cc0_scratch4 cc0_scratch5) (fun _ => bodyPost m ρ c)
  exact body_spec m ρ c

end Cert.ColSum

end
-- ==== Proof.Ghost.lean ====
/-
# The launch's ghost state

The launch mints every shared semaphore's record, position and tokens for the device that owns the semaphore. The records
then go to every device, and each token goes to the device that pays with it.
-/
module

public import proofs.«01_k».proof.Proof.Region

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (c : Dev nD)

/-! ## The shared semaphores, listed -/

theorem csem_injective : Function.Injective csem := by decide
theorem kcell_injective : Function.Injective kcell := fun x y h =>
  Prod.ext (congrArg (fun g : GSem nD τ sig => g.1.1) h) (csem_injective (congrArg Prod.snd h))
def theCells : Finset (GSem nD τ sig) := Finset.univ.map ⟨kcell, kcell_injective⟩

/-- The thirteen places: the barrier's, the six sends', the six receives'. -/
def places : Fin 1 ⊕ (Fin 6 ⊕ Fin 6) ≃ Fin 13 := ((Equiv.refl (Fin 1)).sumCongr finSumFinEquiv).trans finSumFinEquiv
theorem places_bar (i : Fin 1) : places (.inl i) = 0 := by revert i; decide
theorem places_out (k : Fin 6) : places (.inr (.inl k)) = outIx k := by revert k; decide
theorem places_inn (k : Fin 6) : places (.inr (.inr k)) = innIx k := by revert k; decide

/-- Something of every shared semaphore of a device: of its barrier, of its sends and of its receives. -/
theorem over_cells (Φ : GSem nD τ sig → sProp 𝕄) :
    (bigSep Finset.univ fun j : Fin 13 => Φ (kcell (c, j)))
      = iprop(Φ (barCell c) ∗ (bigSep Finset.univ fun k : Fin 6 => Φ (sendCell c k)) ∗ bigSep Finset.univ fun k : Fin 6 => Φ (recvCell c k)) := by
  rw [bigSep_univ_equiv places, bigSep_univ_sum, bigSep_univ_sum]
  refine congrArg₂ _ ?_ (congrArg₂ _ ?_ ?_)
  · rw [bigSep_univ_eq_bigSepL [(0 : Fin 1)] (by decide) (by decide), bigSepL_singleton, places_bar]; rfl
  · exact bigSep_congr fun k _ => by rw [places_out]; dsimp only [kcell]; rw [csem_out]
  · exact bigSep_congr fun k _ => by rw [places_inn]; dsimp only [kcell]; rw [csem_inn]

/-! ## The tokens, listed -/

/-- The tokens of a device's own semaphores: three of its barrier, one of every send, one of every receive. -/
def tokOf : Dev nD × (Fin 3 ⊕ (Fin 6 ⊕ Fin 6)) → GSem nD τ sig × ℕ × Fin 3
  | (c, .inl e) => (barCell c, 0, e)
  | (c, .inr (.inl k)) => (sendCell c k, 0, 0)
  | (c, .inr (.inr k)) => (recvCell c k, 0, 0)
def tokSem : Fin 3 ⊕ (Fin 6 ⊕ Fin 6) → SemLoc sig × Fin 3
  | .inl e => (.reg barS, e)
  | .inr (.inl k) => (.dma (sendS k), 0)
  | .inr (.inr k) => (.dma (recvS k), 0)
theorem tokSem_injective : Function.Injective tokSem := by decide
theorem tokOf_dev (x : Dev nD × (Fin 3 ⊕ (Fin 6 ⊕ Fin 6))) : (tokOf x).1.1.1 = x.1 := by rcases x with ⟨c, _ | _ | _⟩ <;> rfl
theorem tokOf_sem (x : Dev nD × (Fin 3 ⊕ (Fin 6 ⊕ Fin 6))) : ((tokOf x).1.2, (tokOf x).2.2) = tokSem x.2 := by rcases x with ⟨c, _ | _ | _⟩ <;> rfl
theorem tokOf_injective : Function.Injective tokOf := fun x y h =>
  Prod.ext (by rw [← tokOf_dev x, ← tokOf_dev y, h]) (tokSem_injective (by rw [← tokOf_sem x, ← tokOf_sem y, h]))
def theToks : Finset (GSem nD τ sig × ℕ × Fin 3) := Finset.univ.map ⟨tokOf, tokOf_injective⟩

/-- The tokens as minted. -/
def ownToks : sProp 𝕄 :=
  iprop((bigSep Finset.univ fun e : Fin 3 => dutyTok ES (barCell c) 0 e)
    ∗ (bigSep Finset.univ fun k : Fin 6 => dutyTok ES (sendCell c k) 0 0) ∗ bigSep Finset.univ fun k : Fin 6 => dutyTok ES (recvCell c k) 0 0)
/-- The tokens as used. -/
def payToks : sProp 𝕄 :=
  iprop((bigSep Finset.univ fun e : Fin 3 => sigTok (F := F) c e)
    ∗ (bigSep Finset.univ fun k : Fin 6 => dutyTok ES (sendCell c k) 0 0) ∗ bigSep Finset.univ fun k : Fin 6 => dutyTok ES (recvCell (fwd (dist k) c) k) 0 0)

/-- A barrier token belongs with the device that lies back from the barrier by the token's distance. -/
def swapBar : Dev nD × Fin 3 ≃ Dev nD × Fin 3 :=
  ⟨fun x => (fwd x.2 x.1, back x.2), fun x => (fwd x.2 x.1, back x.2), fun x => by revert x; decide, fun x => by revert x; decide⟩
/-- A receive's token belongs with the device that sends to it. -/
def shiftRow : Dev nD × Fin 6 ≃ Dev nD × Fin 6 :=
  ⟨fun x => (fwd (dist x.2) x.1, x.2), fun x => (fwd (back (dist x.2)) x.1, x.2), fun x => by revert x; decide, fun x => by revert x; decide⟩

/-- The tokens go round. -/
theorem deal_toks : (bigSep Finset.univ fun c : Dev nD => ownToks (F := F) c) ⊢ bigSep Finset.univ fun c : Dev nD => payToks (F := F) c := by
  have hb : (bigSep Finset.univ fun c : Dev nD => bigSep Finset.univ fun e : Fin 3 => (dutyTok ES (barCell c) 0 e : sProp 𝕄))
      = bigSep Finset.univ fun c : Dev nD => bigSep Finset.univ fun e : Fin 3 => sigTok (F := F) c e := by
    rw [← bigSep_univ_prod (fun x : Dev nD × Fin 3 => (dutyTok ES (barCell x.1) 0 x.2 : sProp 𝕄)), bigSep_univ_equiv swapBar, bigSep_univ_prod]
    rfl
  have hr : (bigSep Finset.univ fun c : Dev nD => bigSep Finset.univ fun k : Fin 6 => (dutyTok ES (recvCell c k) 0 0 : sProp 𝕄))
      = bigSep Finset.univ fun c : Dev nD => bigSep Finset.univ fun k : Fin 6 => (dutyTok ES (recvCell (fwd (dist k) c) k) 0 0 : sProp 𝕄) := by
    rw [← bigSep_univ_prod (fun x : Dev nD × Fin 6 => (dutyTok ES (recvCell x.1 x.2) 0 0 : sProp 𝕄)), bigSep_univ_equiv shiftRow, bigSep_univ_prod]
    rfl
  unfold ownToks payToks
  rw [bigSep_sep', bigSep_sep', bigSep_sep', bigSep_sep', hb, hr]

/-! ## What the launch mints -/

/-- The launch element: the staging pipeline's, the schedule's, and no counter. -/
def u₀ : UA := (initOf (Pipeline.cells cfgs cellOf_inj) (Pipeline.launchToks cfgs cellOf_inj), (initOf theCells theToks, 1))

/-- A device's own share of it. -/
def minted : sProp 𝕄 :=
  iprop((bigSep Finset.univ fun j : Fin 13 => roundState ES (sched m) (kcell (c, j)) 0)
    ∗ (bigSep Finset.univ fun j : Fin 13 => reached ES (kcell (c, j)) 0)
    ∗ (bigSep Finset.univ fun j : Fin 13 => atPos ES (kcell (c, j)) 0 ∅ 0) ∗ ownToks (F := F) c)

theorem mint : BI.own (ES (F := F) (initOf theCells theToks)) ⊢ (|==> bigSep Finset.univ (minted m) : sProp 𝕄) := by
  have hc (Φ : GSem nD τ sig → sProp 𝕄) : bigSep theCells Φ = bigSep Finset.univ fun c : Dev nD => bigSep Finset.univ fun j : Fin 13 => Φ (kcell (c, j)) := by
    unfold theCells; rw [bigSep_map, bigSep_univ_prod]; rfl
  have ht : bigSep theToks (fun x => (dutyTok ES x.1 x.2.1 x.2.2 : sProp 𝕄)) = bigSep Finset.univ fun c : Dev nD => ownToks (F := F) c := by
    unfold theToks; rw [bigSep_map, bigSep_univ_prod]
    exact bigSep_congr fun c _ => by rw [bigSep_univ_sum, bigSep_univ_sum]; rfl
  iintro H
  imod (Rounds.fund ES (sched m) theCells theToks) $$ H with H
  imodintro
  rw [hc, hc, hc, ht]
  unfold minted
  rw [bigSep_sep', bigSep_sep', bigSep_sep']
  iexact H

/-! ## The kernel's own semaphores -/

/-- Two for the local copies, six for sending, six for receiving. -/
abbrev osem : Fin 2 ⊕ (Fin 6 ⊕ Fin 6) → SemLoc sig
  | .inl s => .dma (copyS s)
  | .inr (.inl k) => .dma (sendS k)
  | .inr (.inr k) => .dma (recvS k)
theorem ownSemFacts : Pipeline.OwnSemFacts cfg0.spec osem := by decide

/-- They are at zero all at once. -/
theorem own_sems : (Pipeline.ownSems0 (Ix := Unit) (Name := ℕ) (U := UA) (Lvl := ℕ) (Val := Elt F) (τ := τ) osem c : sProp 𝕄)
    = iprop((semVal ((c : Thread nD τ), .dma (copyS 0)) 0 ∗ semVal ((c : Thread nD τ), .dma (copyS 1)) 0)
        ∗ (bigSep Finset.univ fun k : Fin 6 => semVal (sendCell c k) 0) ∗ bigSep Finset.univ fun k : Fin 6 => semVal (recvCell c k) 0) := by
  unfold Pipeline.ownSems0
  rw [bigSep_univ_sum, bigSep_univ_sum, two]
  rfl
/-- The barrier's is the one that outlives the kernel. -/
theorem runtime_sem : (unscopedSems0 c : sProp 𝕄) = semVal (barCell c) 0 := by
  unfold unscopedSems0
  rw [bigSep_eq_bigSepL_of_eq [SemLoc.reg barS] (by decide) (by decide)]; rfl

/-! ## From what is minted to what is held -/

/-- What a device holds of its own, before the records are shared out. -/
def mine : sProp 𝕄 :=
  iprop((bigSep Finset.univ fun j : Fin 13 => iprop(∃ κ : ℕ, cellInv ES (sched m) κ (kcell (c, j))))
    ∗ (bigSep Finset.univ fun j : Fin 13 => reached ES (kcell (c, j)) 0)
    ∗ (bigSep Finset.univ fun j : Fin 13 => atPos ES (kcell (c, j)) 0 ∅ 0) ∗ ownToks (F := F) c
    ∗ semVal ((c : Thread nD τ), .dma (copyS 0)) 0 ∗ semVal ((c : Thread nD τ), .dma (copyS 1)) 0)

/-- A shared semaphore at zero whose round state is fresh takes up its record. -/
theorem take_up : iprop(Pipeline.ownSems0 (Ix := Unit) (Name := ℕ) (U := UA) (Lvl := ℕ) (Val := Elt F) (τ := τ) osem c ∗ unscopedSems0 c ∗ minted m c)
    ⊢ |={Set.univ}=> mine m c := by
  rw [own_sems, runtime_sem]
  unfold minted mine
  iintro ⟨⟨⟨H0, H1⟩, Hs, Hv⟩, Hb, Hst, Hre, Hat, Ht⟩
  ihave Hz := (Entails.of_eq (over_cells (F := F) c (fun g => semVal g 0)).symm) $$ [Hs Hv Hb]
  · isplitl [Hb]; · iexact Hb
    isplitl [Hs]; · iexact Hs
    iexact Hv
  imod (show iprop((bigSep Finset.univ fun j : Fin 13 => semVal (kcell (c, j)) 0) ∗ bigSep Finset.univ fun j : Fin 13 => roundState ES (sched m) (kcell (c, j)) 0)
      ⊢ (|={Set.univ}=> bigSep Finset.univ fun j : Fin 13 => iprop(∃ κ : ℕ, cellInv ES (sched m) κ (kcell (c, j))) : sProp 𝕄) from by
        rw [← bigSep_sep']
        exact (bigSep_mono fun j _ => (Rounds.body_intro ES (sched m) (kcell (c, j))).trans inv_alloc).trans (bigSep_fupd _ _)) $$ [Hz Hst] with Hi
  · isplitl [Hz]; · iexact Hz
    iexact Hst
  imodintro
  isplitl [Hi]; · iexact Hi
  isplitl [Hre]; · iexact Hre
  isplitl [Hat]; · iexact Hat
  isplitl [Ht]; · iexact Ht
  isplitl [H0]; · iexact H0
  iexact H1

/-- What a device holds once the tokens have gone round. -/
def held : sProp 𝕄 :=
  iprop((bigSep Finset.univ fun j : Fin 13 => atPos ES (kcell (c, j)) 0 ∅ 0) ∗ payToks (F := F) c
    ∗ semVal ((c : Thread nD τ), .dma (copyS 0)) 0 ∗ semVal ((c : Thread nD τ), .dma (copyS 1)) 0)
/-- The same with the records. -/
def dealt : sProp 𝕄 := iprop((∃ K, records m K) ∗ held (F := F) c)

/-- The records go to every device, and the tokens go round. -/
theorem share_out : bigSep Finset.univ (mine m) ⊢ (bigSep Finset.univ (dealt m) : sProp 𝕄) := by
  unfold mine
  rw [bigSep_sep', bigSep_sep', bigSep_sep', bigSep_sep', bigSep_sep',
    ← bigSep_univ_prod (fun x : Dev nD × Fin 13 => iprop(∃ κ : ℕ, cellInv ES (sched m) κ (kcell x))),
    ← bigSep_univ_prod (fun x : Dev nD × Fin 13 => (reached ES (kcell x) 0 : sProp 𝕄))]
  iintro ⟨Hi, Hre, Hat, Ht, Hc⟩
  ihave Hi := (BI.bigSep_exists_pi Finset.univ (fun (x : Dev nD × Fin 13) (κ : ℕ) => (cellInv ES (sched m) κ (kcell x) : sProp 𝕄))) $$ Hi
  icases Hi with ⟨%K, Hi⟩
  ihave HR := (show iprop((bigSep Finset.univ fun x : Dev nD × Fin 13 => (cellInv ES (sched m) (K x) (kcell x) : sProp 𝕄))
      ∗ bigSep Finset.univ fun x : Dev nD × Fin 13 => reached ES (kcell x) 0) ⊢ records m K from by
        unfold records; rw [bigSep_sep']) $$ [Hi Hre]
  · isplitl [Hi]; · iexact Hi
    iexact Hre
  ihave HR := (BI.bigSep_of_persistent (Finset.univ : Finset (Dev nD)) (records m K)) $$ HR
  ihave Ht := (deal_toks (F := F)) $$ Ht
  have hd : ∀ c : Dev nD, iprop(records m K ∗ held (F := F) c) ⊢ dealt m c := fun c => by
    unfold dealt
    iintro ⟨HR, H⟩
    isplitl [HR]; · iexists K; iexact HR
    iexact H
  have hall : iprop((bigSep Finset.univ fun _ : Dev nD => records m K) ∗ bigSep Finset.univ (held (F := F))) ⊢ (bigSep Finset.univ (dealt m) : sProp 𝕄) := by
    rw [← bigSep_sep']
    exact bigSep_mono fun c _ => hd c
  have hh : iprop((bigSep Finset.univ fun c : Dev nD => bigSep Finset.univ fun j : Fin 13 => atPos ES (kcell (c, j)) 0 ∅ 0)
      ∗ (bigSep Finset.univ fun c : Dev nD => payToks (F := F) c) ∗ (bigSep Finset.univ fun c : Dev nD => semVal ((c : Thread nD τ), .dma (copyS 0)) 0)
      ∗ bigSep Finset.univ fun c : Dev nD => semVal ((c : Thread nD τ), .dma (copyS 1)) 0) ⊢ (bigSep Finset.univ (held (F := F)) : sProp 𝕄) := by
    unfold held
    rw [bigSep_sep', bigSep_sep', bigSep_sep']
  iapply hall
  isplitl [HR]; · iexact HR
  iapply hh
  isplitl [Hat]; · iexact Hat
  isplitl [Ht]; · iexact Ht
  iexact Hc

/-- The launch's one step over all the devices. -/
theorem glob : (bigSep Finset.univ fun c : Dev nD => iprop(Pipeline.ownSems0 (Ix := Unit) (Name := ℕ) (U := UA) (Lvl := ℕ) (Val := Elt F) (τ := τ) osem c
      ∗ unscopedSems0 c ∗ minted m c) : sProp 𝕄)
    ⊢ |={Set.univ}=> bigSep Finset.univ (dealt m) :=
  ((bigSep_mono fun c _ => take_up m c).trans (bigSep_fupd _ _)).trans (BI.fupd_mono (share_out m))

end Cert.ColSum

end
-- ==== Proof.Launch.lean ====
/-
# The launch

What the devices owe one another when the kernel starts, and the run of the whole program on the four devices.
-/
module

public import proofs.«01_k».proof.Proof.Ghost
public import Idealize.ShloMosaic.Lib.Pipeline.CollectiveSegs

@[expose] public section

noncomputable section

namespace Cert.ColSum

open Cert.KernelIdeal Cert.KernelIdeal.Gen

open Idealize.ShloMosaic
open Idealize.ShloMosaic.TcCoe
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

/-! ## What is owed to each semaphore -/

theorem recv_eq {a b : Dev nD} {j k : Fin 6} : recvCell a j = recvCell b k ↔ a = b ∧ j = k := by
  constructor
  · intro h
    exact ⟨congrArg (fun g : GSem nD τ sig => g.1.1) h,
      (show Function.Injective (fun k : Fin 6 => (SemLoc.dma (recvS k) : SemLoc sig)) from by decide) (congrArg Prod.snd h)⟩
  · rintro ⟨rfl, rfl⟩; rfl
theorem bar_eq {a b : Dev nD} : barCell a = barCell b ↔ a = b :=
  ⟨fun h => congrArg (fun g : GSem nD τ sig => g.1.1) h, fun h => h ▸ rfl⟩
theorem recv_bar {a b : Dev nD} {k : Fin 6} : recvCell a k = barCell b ↔ False :=
  ⟨fun h => absurd (congrArg Prod.snd h) (fun h' => by cases h'), False.elim⟩
theorem bar_recv {a b : Dev nD} {k : Fin 6} : barCell b = recvCell a k ↔ False :=
  ⟨fun h => absurd (congrArg Prod.snd h) (fun h' => by cases h'), False.elim⟩

/-- Exactly one device lies `e + 1` places before `c`. -/
theorem sum_turn (e : Fin 3) (c : Dev nD) (n : ℕ) : (∑ d : Dev nD, if c = fwd e d then n else 0) = n := by
  rw [show (∑ d : Dev nD, if c = fwd e d then n else 0) = ∑ d : Dev nD, if c = turn e d then n else 0 from rfl,
    (turn e).sum_comp (fun d => if c = d then n else 0), Finset.sum_ite_eq, if_pos (Finset.mem_univ _)]

/-- What all the devices owe a receive semaphore for transfer `j`, and what they owe a barrier at distance `e`. -/
theorem sum_row_recv (c : Dev nD) (k j : Fin 6) : (∑ d : Dev nD, dueRow d j (recvCell c k) ()) = if k = j then N else 0 := by
  simp only [dueRow, tallyAt_apply, recv_eq, and_true]
  by_cases h : k = j
  · simp only [h, and_true, if_true]; exact sum_turn (dist j) c N
  · simp only [h, and_false, if_false, Finset.sum_const_zero]
theorem sum_row_bar (c : Dev nD) (j : Fin 6) : (∑ d : Dev nD, dueRow d j (barCell c) ()) = 0 := by
  simp only [dueRow, tallyAt_apply, bar_recv, false_and, if_false, Finset.sum_const_zero]
theorem sum_bar_recv (c : Dev nD) (k : Fin 6) (e : Fin 3) : (∑ d : Dev nD, dueBar d e (recvCell c k) ()) = 0 := by
  simp only [dueBar, tallyAt_apply, recv_bar, false_and, if_false, Finset.sum_const_zero]
theorem sum_bar_bar (c : Dev nD) (e : Fin 3) : (∑ d : Dev nD, dueBar d e (barCell c) ()) = 1 := by
  simp only [dueBar, tallyAt_apply, bar_eq, and_true]; exact sum_turn e c 1

/-- What a device owes at the start, term by term. -/
theorem owed_nine (d : Dev nD) (g : GSem nD τ sig) : owed d 9 g () = dueRow d 5 g () + dueRow d 4 g () + dueRow d 3 g () + dueRow d 2 g ()
    + dueRow d 1 g () + dueRow d 0 g () + dueBar d 2 g () + dueBar d 1 g () + dueBar d 0 g () := by
  show ((((((((((0 : CellTallies nD τ sig Unit) + dueRow d 5) + dueRow d 4) + dueRow d 3) + dueRow d 2) + dueRow d 1) + dueRow d 0) + dueBar d 2) + dueBar d 1) + dueBar d 0) g () = _
  rw [zero_add]
  simp only [Pi.add_apply, Finsupp.add_apply]
theorem owed_bar (c : Dev nD) : (∑ d : Dev nD, owed d 9 (barCell c) ()) = 3 := by
  simp only [owed_nine, Finset.sum_add_distrib, sum_row_bar, sum_bar_bar]
theorem owed_recv (c : Dev nD) (k : Fin 6) : (∑ d : Dev nD, owed d 9 (recvCell c k) ()) = N := by
  simp only [owed_nine, Finset.sum_add_distrib, sum_row_recv, sum_bar_recv]
  fin_cases k <;> rfl

/-- What a device owes at the start. -/
abbrev owed₀ (c : Dev nD) : CellTallies nD τ sig Unit := owed c 9

theorem credit_of {g : GSem nD τ sig} {n : ℕ} (h : (∑ d : Dev nD, owed d 9 g ()) = n) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same]
  exact h

variable (m : (ℓ : Loc nD τ sig) → Buf (Elt F) ℓ) (ρ : Dev nD → PrngReg) (c : Dev nD)

/-- The credit a device's waits draw on: three units at its barrier, a row at each receive. -/
theorem creds : (Pipeline.launchCred owed₀ c : sProp 𝕄)
    ⊢ iprop(cred (tallyAt (barCell c) () 3) ∗ bigSep Finset.univ fun k : Fin 6 => cred (tallyAt (recvCell c k) () N)) := by
  have h1 : (Pipeline.launchCred owed₀ c : sProp 𝕄)
      ⊢ bigSep ((Finset.univ : Finset (Fin 13)).map ⟨csem, csem_injective⟩)
          fun sm => cred (tallyOn ((c : Thread nD τ), sm) (launchCredit (Pipeline.owing owed₀) 0 ((c : Thread nD τ), sm))) := by
    unfold Pipeline.launchCred
    exact BI.bigSep_subset (Finset.subset_univ _)
  rw [bigSep_map] at h1
  have h2 := h1.trans (Entails.of_eq (over_cells (F := F) c fun g => cred (tallyOn g (launchCredit (Pipeline.owing owed₀) 0 g))))
  rw [credit_of (owed_bar c),
    bigSep_congr (Φ := fun k : Fin 6 => cred (tallyOn (recvCell c k) (launchCredit (Pipeline.owing owed₀) 0 (recvCell c k))))
      (fun k _ => congrArg cred (credit_of (owed_recv c k)))] at h2
  iintro H
  ihave H := h2 $$ H
  icases H with ⟨Hb, -, Hr⟩
  isplitl [Hb]; · iexact Hb
  iexact Hr

/-! ## The sides of the region -/

theorem three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

/-- What the launch gives device `c` is what it starts from. -/
theorem start_intro : iprop(Pipeline.unscopedRestP Pipeline.Prefetch.none cfg0.spec c (fun b => m ((c : Thread nD τ).loc b)) ∗ levAts L lv
      ∗ Pipeline.launchCred owed₀ c ∗ prngReg c (ρ c) ∗ dealt m c)
    ⊢ |={Set.univ}=> iprop(start m c ∗ emp) := by
  rw [Pipeline.unscopedRestP_none, unscopedRest0_eq]
  unfold dealt held payToks
  rw [over_cells (F := F) c (fun g => atPos ES g 0 ∅ 0)]
  iintro ⟨Ha, Hl, Hcr, -, ⟨%K, HR⟩, ⟨Hab, Has, Har⟩, ⟨Htb, Hts, Htr⟩, Hc0, Hc1⟩
  ihave Hcr := (creds (F := F) c) $$ Hcr
  icases Hcr with ⟨Hcb, Hcr⟩
  imodintro
  isplitl
  · unfold start
    isplitl [HR Hl]
    · iexists K; unfold Known
      isplitl [HR]; · iexact HR
      iexact Hl
    isplitl [Htb]
    · unfold sigToks; rw [← three (F := F) (fun e => sigTok (F := F) c e)]; iexact Htb
    isplitl [Has Har Hts Htr Hcr]
    · unfold xfers
      rw [← six (F := F) (fun k => xfer (F := F) c k)]
      unfold xfer sendTok outTurn innTurn
      rw [bigSep_sep', bigSep_sep', bigSep_sep', bigSep_sep']
      isplitl [Hts Htr]
      · isplitl [Hts]; · iexact Hts
        iexact Htr
      isplitl [Has]; · iexact Has
      isplitl [Har]; · iexact Har
      iexact Hcr
    isplitl [Hab Hcb]
    · unfold barTurn
      isplitl [Hab]; · iexact Hab
      iexact Hcb
    unfold kept
    isplitl [Ha]; · iexact Ha
    isplitl [Hc0]; · iexact Hc0
    iexact Hc1
  · iempintro

theorem enter : iprop(start m c ∗ Pipeline.prefHeld Pipeline.Prefetch.none c (fun _ => fullShare.right) (fun k => k.elim0) ∗ Pipeline.scopedRest cfg0.spec c)
    ⊢ (dats m ρ 0 c).Φ 0 := by
  rw [show (dats m ρ 0 c).Φ 0 = before m c from rfl, scopedRest0_eq]
  unfold before scratches someBuf
  iintro ⟨Hs, -, Hr⟩
  isplitl [Hs]; · iexact Hs
  iexact Hr

/-- What outlives the region: the argument as it was, and the barrier's counter at zero. -/
def left : sProp 𝕄 := iprop((((c : Thread nD τ).loc main_arg0) ↦{fullShare} argOf m c) ∗ unscopedSems0 c)

theorem leave : (dats m ρ 0 c).Φ (Fin.last cfg0.N) ⊢ iprop(left m c ∗ Pipeline.ownSems0 osem c ∗ Pipeline.scopedRest cfg0.spec c) := by
  rw [show (dats m ρ 0 c).Φ (Fin.last cfg0.N) = after m c from rfl, scopedRest0_eq, own_sems]
  unfold after left kept quiets
  rw [runtime_sem, ← six (F := F) (fun k => quiet (F := F) c k)]
  unfold quiet scratches someBuf
  rw [bigSep_sep']
  iintro ⟨Hr, ⟨Ha, Hc0, Hc1⟩, Hb, Hs, Hv⟩
  isplitl [Ha Hb]
  · isplitl [Ha]; · iexact Ha
    iexact Hb
  isplitl [Hc0 Hc1 Hs Hv]
  · isplitl [Hc0 Hc1]
    · isplitl [Hc0]; · iexact Hc0
      iexact Hc1
    isplitl [Hs]; · iexact Hs
    iexact Hv
  iexact Hr

/-- The staging copy may be waited for at any time. -/
theorem waits : (levAts L lv : sProp 𝕄) ⊢ Pipeline.cellsWaits cfgs (dats m ρ) () 0 c :=
  Pipeline.cellsWaits_intro cfgs (dats m ρ) () 0 c fun w s t =>
    may_wait c _ 0 (by fin_cases w <;> fin_cases s <;> decide) _ (by
      rcases t with ⟨_ | _, ht⟩
      · exact above_all c 9 (le_refl 9)
      · exact Above.zero 0)

theorem full_share (w : Fin cfg0.W) : (dats m ρ 0 c).share w = fullShare := by unfold Dat.share; split <;> rfl

/-- Reading back what outlives the region. -/
theorem read_left (s' : Phys nD τ sig (Elt F)) : iprop(left m c ∗ emp ∗ SI s')
    ⊢ |={Set.univ}=> iprop(⌜s'.mem.mem ((c : Thread nD τ).loc main_arg0) = argOf m c
        ∧ ∀ sm : SemLoc sig, sm.isScoped .tc = false → s'.mem.sem ((c.tc : Thread nD τ), sm) = 0⌝ ∗ (SI s' : sProp 𝕄)) := by
  unfold left
  iintro ⟨⟨Ha, Hu⟩, -, HSI⟩
  icombine HSI Ha gives %ha
  imod (Pipeline.unscopedSems0_read (X := unscopedSems0 c) (c := c) fupd_intro s') $$ [Hu HSI] with ⟨%hz, HSI⟩
  · isplitl [Hu]; · iexact Hu
    iexact HSI
  imodintro
  isplitr; · ipureintro; exact ⟨Buf.eq_of_forall_mem_univ ha, hz⟩
  iexact HSI

/-! ## The run -/

/-- The result array after the run. -/
def outA : Buf (Elt F) ((cfg0.win (0 : Fin 1)).arr.view.loc (c : Thread nD τ)) := (dats m ρ 0 c).arrAt (0 : Fin 1) cfg0.N

/-- From any memory with every counter at zero the four devices run to the end, whatever the floats are, and at the end
    each device's argument is as it was, its result is `outA`, and every counter is zero. -/
theorem run_main : θ_run defs (onTc (τ := τ) (main (F := F))) (s₀ m ρ) (fun r =>
    (∀ c : Dev nD, r.2.mem ((c : Thread nD τ).loc main_arg0) = m ((c : Thread nD τ).loc main_arg0))
      ∧ (∀ c : Dev nD, r.2.mem ((c : Thread nD τ).loc main_v1) = outA m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w; exact Nat.succ_pos _) (harr := arr_whole0) (hstage := stage_whole0)
    (hshare := full_share m ρ) (hdistinct := winFacts0.arr_inj)
    (O₀ := owed₀) (howed₀ := fun _ => rfl) (howedN := fun _ => rfl)
    (L := L) (lv := lv) (hL := L_of_ne) (hwaits := waits m ρ)
    (G := minted m) (G' := dealt m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show BI.own (((Emb.inl : Emb RC (RC × Counters)).trans (embR : Emb (RC × Counters) 𝕄)) (initOf theCells theToks))
          ⊢ (|==> bigSep Finset.univ (minted m) : sProp 𝕄) from mint m) $$ HX with HG
      imodintro
      isplitl [HP]; · iexact HP
      iexact HG)
    (hglob := glob m)
    (hA := fun _ _ => rfl) (hpf := fun _ k => k.elim0)
    (X := start m) (Y := left m) (Z := fun _ => iprop(emp))
    (hX := start_intro m ρ) (hin := enter m ρ) (hout := leave m ρ)
    (QY := fun c s => s.mem ((c : Thread nD τ).loc main_arg0) = argOf m c
      ∧ ∀ sm : SemLoc sig, sm.isScoped .tc = false → s.sem ((c.tc : Thread nD τ), sm) = 0)
    (hY := fun c s' => read_left m c s')
    (hQ := fun _ h hs => ⟨fun c => (h c).2.2.1, fun c => (h c).1 (0 : Fin 1), sem_eq_zero hs fun c => (h c).2.2.2⟩)

end Cert.ColSum

end
-- ==== Proof.Value.lean ====
/-
# The result

What the kernel computes over the extended reals: on every device, each column's sum over all the rows of the four
devices' arguments, which is what the reference computes from the whole array.
-/
module

public import proofs.«01_k».proof.Proof.Launch
public import proofs.«01_k».proof.Proof.Gen.ReferenceIdeal
public import Idealize.ShloMosaic.Lib.Pointwise
public import Idealize.ShloMosaic.Lib.ValueLayout
public import Idealize.ShloMosaic.Lib.IdealHost
public import Idealize.ShloMosaic.Lib.Layout

@[expose] public section

noncomputable section

namespace Cert.ColSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The result array -/

/-- The whole result array ends holding the result. -/
theorem outA_eq (m : (ℓ : Loc nD τ sig) → Buf (Elt F) ℓ) (ρ : Dev nD → PrngReg) (c : Dev nD) : outA m ρ c = resOf m c := by
  have h : (win0_0.blk (0 : Fin 1)).view.read (Elt F) (outA m ρ c) = resOf m c := by
    unfold outA
    rw [show cfg0.N = ((0 : Fin 1) : Fin cfg0.N).val + 1 from rfl, (dats m ρ 0 c).arrAt_succ (0 : Fin 1) (0 : Fin 1),
      show (cfg0.win (0 : Fin 1)).flush (0 : Fin 1) = true from by decide, if_pos rfl]
    exact View.read_write_univ _ _
  rw [← h]
  funext x
  refine congrArg (outA m ρ c) (funext fun a => Fin.ext ?_)
  fin_cases a
  · show (x 0).val = 0 + 1 * (x 0).val; omega
  · show (x 1).val = 0 + 1 * (x 1).val; omega

/-! ## The sums, number by number -/

/-- The column sums of one loaded block. -/
def colSum (v : FVec Ideal S1x256x1024 .f32) (j : Fin 1024) : EReal := ∑ r : Fin 256, v (ix3 0 r j)

/-- Adding up a block's rows gives its column sums. -/
theorem reduce_block (v : FVec Ideal S1x256x1024 .f32) (j : Fin 1024) :
    shapeCast S1x1024 (multiReduction (F := Ideal) .add [0] S1024 (shapeCast S256x1024 v shapeCasts_S1x256x1024_S256x1024)
      0x00000000#32 reduces_S256x1024_S1024 (.inl rfl) rfl) shapeCasts_S1024_S1x1024 (ix2 0 j) = colSum v j := by
  refine (shapeCast_addUnit_apply ![1024] _ shapeCasts_S1024_S1x1024 (ix2 0 j)).trans ?_
  refine (Ideal.reduceAdd_r2_a0 reduces_S256x1024_S1024 _ _).trans (Finset.sum_congr rfl fun r _ => ?_)
  exact ValueIdx.shapeCast_1ab_ab_apply v _ _ _

/-- Adding up the six received rows, column by column. -/
theorem reduce_six (v : FVec Ideal S6x1024 .f32) (j : Fin 1024) :
    shapeCast S1x1024 (multiReduction (F := Ideal) .add [0] S1024 v
      0x00000000#32 reduces_S6x1024_S1024 (.inl rfl) rfl) shapeCasts_S1024_S1x1024 (ix2 0 j) = ∑ k : Fin 6, v (ix2 k j) := by
  refine (shapeCast_addUnit_apply ![1024] _ shapeCasts_S1024_S1x1024 (ix2 0 j)).trans ?_
  exact Ideal.reduceAdd_r2_a0 reduces_S6x1024_S1024 v _

/-! What each value the body stores holds in column `j`: a block's column sum, alone or on top of the row before. -/

theorem pay3_apply (v : FVec Ideal S1x256x1024 .f32) (j : Fin 1024) : k0_pay3 (F := Ideal) (k0_pay2 v) (ix2 0 j) = colSum v j := by
  unfold k0_pay3 k0_pay2; rw [shapeCast_self]; exact reduce_block v j
theorem pay4_apply (v : FVec Ideal S1x256x1024 .f32) (r : FVec Ideal S1x1024 .f32) (j : Fin 1024) :
    k0_pay4 (F := Ideal) v r (ix2 0 j) = r (ix2 0 j) + colSum v j := by
  unfold k0_pay4; rw [shapeCast_self]; exact congrArg (r (ix2 0 j) + ·) (reduce_block v j)
theorem pay5_apply (v : FVec Ideal S1x256x1024 .f32) (r : FVec Ideal S1x1024 .f32) (j : Fin 1024) :
    k0_pay5 (F := Ideal) v r (ix2 0 j) = r (ix2 0 j) + colSum v j := pay4_apply v r j
theorem pay6_apply (v : FVec Ideal S1x256x1024 .f32) (r : FVec Ideal S1x1024 .f32) (j : Fin 1024) :
    k0_pay6 (F := Ideal) v r (ix2 0 j) = r (ix2 0 j) + colSum v j := pay4_apply v r j
theorem pay7_apply (v : FVec Ideal S1x256x1024 .f32) (j : Fin 1024) : k0_pay7 (F := Ideal) v (ix2 0 j) = colSum v j :=
  pay3_apply v j
theorem pay8_apply (v : FVec Ideal S1x256x1024 .f32) (r : FVec Ideal S1x1024 .f32) (j : Fin 1024) :
    k0_pay8 (F := Ideal) v r (ix2 0 j) = r (ix2 0 j) + colSum v j := pay4_apply v r j
theorem pay10_apply (v : FVec Ideal S1x256x1024 .f32) (r : FVec Ideal S1x1024 .f32) (j : Fin 1024) :
    k0_pay10 (F := Ideal) (k0_pay9 v r) (ix2 0 j) = r (ix2 0 j) + colSum v j := pay4_apply v r j
theorem pay11_apply (v : FVec Ideal S1x256x1024 .f32) (r : FVec Ideal S1x1024 .f32) (j : Fin 1024) :
    k0_pay11 (F := Ideal) v r (ix2 0 j) = r (ix2 0 j) + colSum v j := pay4_apply v r j
/-- The result's column: the two rows of sums, and the six received rows. -/
theorem pay1_apply (a b : FVec Ideal S1x1024 .f32) (v : FVec Ideal S6x1024 .f32) (j : Fin 1024) :
    k0_pay1 (F := Ideal) (k0_pay12 a b) v (ix2 0 j) = a (ix2 0 j) + b (ix2 0 j) + ∑ k : Fin 6, v (ix2 k j) := by
  unfold k0_pay1 k0_pay12; exact congrArg (a (ix2 0 j) + b (ix2 0 j) + ·) (reduce_six v j)

variable (m : (ℓ : Loc nD τ sig) → Buf (Elt Ideal) ℓ) (c : Dev nD)

/-- Block `b` at row `r` is row `256 b + r` of the argument. -/
theorem blkOf_apply (b : Fin 8) (r : Fin 256) (j : Fin 1024) :
    blkOf m c b (ix3 0 r j) = argOf m c (ix2 (⟨256 * b.val + r.val, by omega⟩ : Fin 2048) j) := by
  have e : (Shape.reshapeEquiv (squeezes_S1x256x1024_S256x1024).numel_eq).symm (ix3 (0 : Fin 1) r j) = ix2 r j := by
    rw [Equiv.symm_apply_eq]
    exact (Shape.reshapeEquiv_eq_of_rowMajor _ (by
      rw [Shape.rowMajor_val_three, Shape.rowMajor_val_two]; simp)).symm
  unfold blkOf
  rw [e]
  refine congrArg (argOf m c) (funext fun a => Fin.ext ?_)
  fin_cases a
  · show 256 * b.val + 1 * r.val = 256 * b.val + r.val; omega
  · show 0 + 1 * j.val = j.val; omega

/-- Column `j` of the first row of sums is the sum of its four blocks' columns. -/
theorem sumLo_apply (j : Fin 1024) : sumLo m c (ix2 0 j) =
    colSum (blkOf m c 0) j + colSum (blkOf m c 1) j + colSum (blkOf m c 2) j + colSum (blkOf m c 3) j := by
  unfold sumLo
  rw [pay6_apply, pay5_apply, pay4_apply, pay3_apply]

/-- Column `j` of the second row of sums is the sum of its four blocks' columns. -/
theorem sumHi_apply (j : Fin 1024) : sumHi m c (ix2 0 j) =
    colSum (blkOf m c 4) j + colSum (blkOf m c 5) j + colSum (blkOf m c 6) j + colSum (blkOf m c 7) j := by
  unfold sumHi
  rw [pay11_apply, pay10_apply, pay8_apply, pay7_apply]

/-- The column sums of the whole argument of one device. -/
def devSum (d : Dev nD) (j : Fin 1024) : EReal := ∑ b : Fin 8, colSum (blkOf m d b) j

/-- The two rows of sums of a device add up to the column sums of its argument. -/
theorem lo_add_hi (d : Dev nD) (j : Fin 1024) : sumLo m d (ix2 0 j) + sumHi m d (ix2 0 j) = devSum m d j := by
  rw [sumLo_apply, sumHi_apply, devSum, Fin.sum_univ_eight]
  simp only [add_assoc]

/-- Column `j` of the result on any device is the sum over all four devices of their column sums. -/
theorem resOf_apply (j : Fin 1024) : resOf m c (ix2 0 j) = ∑ d : Dev nD, devSum m d j := by
  unfold resOf
  rw [pay1_apply, lo_add_hi, Fin.sum_univ_six]
  have hk (k : Fin 6) : gotOf m c (ix2 k j) = sumOf m (fwd (back (dist k)) c) (half k) (ix2 0 j) := rfl
  simp only [hk]
  have h3 (f : Dev nD → EReal) : (∑ e : Fin 3, f (fwd (back e) c)) + f c = ∑ d : Dev nD, f d := by
    rw [Fin.sum_univ_three, Fin.sum_univ_four]
    fin_cases c
    · show f 3 + f 2 + f 1 + f 0 = _; ac_rfl
    · show f 0 + f 3 + f 2 + f 1 = _; ac_rfl
    · show f 1 + f 0 + f 3 + f 2 = _; ac_rfl
    · show f 2 + f 1 + f 0 + f 3 = _; ac_rfl
  rw [← h3 fun d => devSum m d j, Fin.sum_univ_three, ← lo_add_hi m (fwd (back 0) c), ← lo_add_hi m (fwd (back 1) c), ← lo_add_hi m (fwd (back 2) c)]
  have hl (k : Fin 3) : sumOf m (fwd (back (dist (slot 0 k))) c) (half (slot 0 k)) = sumLo m (fwd (back k) c) := by
    rw [dist_slot, half_slot]; rfl
  have hh (k : Fin 3) : sumOf m (fwd (back (dist (slot 1 k))) c) (half (slot 1 k)) = sumHi m (fwd (back k) c) := by
    rw [dist_slot, half_slot]; rfl
  rw [show (0 : Fin 6) = slot 0 0 from rfl, show (1 : Fin 6) = slot 0 1 from rfl, show (2 : Fin 6) = slot 0 2 from rfl,
    show (3 : Fin 6) = slot 1 0 from rfl, show (4 : Fin 6) = slot 1 1 from rfl, show (5 : Fin 6) = slot 1 2 from rfl]
  simp only [hl, hh]
  ac_rfl

/-! ## The reference -/

/-- A sum over the 8192 rows, taken device by device, block by block and row by row. -/
theorem sum_rows (f : Fin 8192 → EReal) : (∑ d : Fin 4, ∑ b : Fin 8, ∑ r : Fin 256,
    f ⟨2048 * d.val + (256 * b.val + r.val), by omega⟩) = ∑ k : Fin 8192, f k := by
  have e1 := (finProdFinEquiv (m := 4) (n := 2048)).sum_comp f
  have e2 (g : Fin 2048 → EReal) := (finProdFinEquiv (m := 8) (n := 256)).sum_comp g
  rw [← e1, Fintype.sum_prod_type]
  refine Finset.sum_congr rfl fun d _ => ?_
  rw [← e2, Fintype.sum_prod_type]
  refine Finset.sum_congr rfl fun b _ => Finset.sum_congr rfl fun r _ => congrArg f (Fin.ext ?_)
  simp only [finProdFinEquiv_apply_val]
  omega

/-- If each device's argument is its quarter of `X`, its result is the reference's: every column's sum over all rows of `X`. -/
theorem resOf_eq (X : FVec Ideal Cert.ReferenceIdeal.S8192x1024 .f32)
    (h : ∀ d : Dev nD, argOf m d = Layout.block ⟨2, ![2048, 1024]⟩ ⟨2, ![8192, 1024]⟩ 0 4 d X) :
    resOf m c = broadcastInDim Cert.ReferenceIdeal.S1x1024 ![1] Cert.ReferenceIdeal.Gen.bcast_S1024_S1x1024_1
      (Host.reduceAdd (F := Ideal) X (constant Cert.ReferenceIdeal.S_ .f32 0x00000000#32)
        Cert.ReferenceIdeal.Gen.reducesTo_S8192x1024_S1024_d0 Cert.ReferenceIdeal.Gen.h_S_) := by
  funext i
  obtain ⟨j, rfl⟩ : ∃ j : Fin 1024, i = ix2 0 j :=
    ⟨i 1, funext fun a => by fin_cases a; exact Subsingleton.elim (α := Fin 1) _ _; rfl⟩
  rw [resOf_apply, broadcastInDim_apply (k := ix1 j) (hk := fun a => by fin_cases a; rfl), ValueIdx.hostReduceAdd_apply]
  refine Eq.trans ?_ (Ideal.hostReduceAdd_r2_a0 _ X _ _).symm
  have hz : constant (F := Ideal) Cert.ReferenceIdeal.S_ .f32 0x00000000#32 (Shape.Idx.first Cert.ReferenceIdeal.Gen.h_S_) = (0 : EReal) := by
    show Ideal.ofBits .f32 0x00000000#32 = 0
    simp [Ideal.ofBits, Ideal.ieee]
  rw [hz, zero_add]
  refine Eq.trans ?_ (sum_rows fun k => X (ix2 k j))
  refine Finset.sum_congr rfl fun d _ => Finset.sum_congr rfl fun b _ => Finset.sum_congr rfl fun r _ => ?_
  rw [blkOf_apply, h d]
  refine congrArg X (funext fun a => Fin.ext ?_)
  fin_cases a
  · exact congrArg (· + _) (Nat.mul_comm _ _)
  · rfl

end Cert.ColSum

end
-- ==== Proof.lean ====
/-
# The five claims

The kernel's run (Proof/Launch.lean) holds whatever the floats are, so it gives both frames of the kernel; over the extended
reals its result is the reference's (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 65536 in
/-- The two printed programs have the same bodies: each label's body is the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  fin_cases l
  rfl

/-- So they have the same table of bodies and pipelines. -/
theorem defs_eq : Cert.Kernel.defs (F := Bits) = Cert.KernelIdeal.defs (F := Bits) := congrArg (Pipeline.defs _) bodies_eq

/-- The kernel terminates without fault, leaves its argument as it was and every counter at zero. -/
theorem frame_kernel : Cert.quiescent_Kernel := by
  intro m ρ _
  rw [defs_eq]
  exact (θ_run Cert.KernelIdeal.defs _ _).mono (fun _ h => ⟨h.1, h.2.2⟩) (Cert.ColSum.run_main (F := Bits) m ρ)

/-- The same over the extended reals. -/
theorem frame_ideal : Cert.quiescent_KernelIdeal := fun m ρ _ =>
  (θ_run Cert.KernelIdeal.defs _ _).mono (fun _ h => ⟨h.1, h.2.2⟩) (Cert.ColSum.run_main (F := Ideal) m ρ)

/-- The reference terminates without fault and leaves its argument as it was; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, where each device's argument is its quarter of the reference's, each device's result is the
    reference's result. -/
theorem same_result : Cert.algebraic_KernelIdeal_ReferenceIdeal := fun m ρ m' ρ' _ hm =>
  ⟨_, (θ_run Cert.KernelIdeal.defs _ _).mono
      (fun _ h c => ⟨(h.2.1 c).trans ((Cert.ColSum.outA_eq m ρ c).trans (Cert.ColSum.resOf_eq m c _ hm)), h.1 c⟩)
      (Cert.ColSum.run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
